-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_KernelIdeal_ids_in_range_finite [hPre_ids_in_range_finite : Cert.Pre_ids_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_finite [hPre_ids_in_range_finite : Cert.Pre_ids_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_ids_in_range_finite [hKernelIdeal : Cert.KernelIdeal.Facts] [hPre_ids_in_range_finite : Cert.Pre_ids_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_ids_in_range_finite [hReferenceIdeal : Cert.ReferenceIdeal.Facts] [hPre_ids_in_range_finite : Cert.Pre_ids_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_ids_in_range_finite [hKernelIdeal : Cert.KernelIdeal.Facts] [hReferenceIdeal : Cert.ReferenceIdeal.Facts] [hPre_ids_in_range_finite : Cert.Pre_ids_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_finite : Cert.Pre_ids_in_range_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_finite (hKernelIdeal := hKernelIdeal) (hPre_ids_in_range_finite := hPre_ids_in_range_finite)
    ∧ quiescent_ReferenceIdeal (hReferenceIdeal := hReferenceIdeal)
    ∧ quiescent_ReferenceIdeal_pre_ids_in_range_finite (hReferenceIdeal := hReferenceIdeal) (hPre_ids_in_range_finite := hPre_ids_in_range_finite)
    ∧ preserves_Kernel_KernelIdeal
    ∧ algebraic_KernelIdeal_ReferenceIdeal_pre_ids_in_range_finite (hKernelIdeal := hKernelIdeal) (hReferenceIdeal := hReferenceIdeal) (hPre_ids_in_range_finite := hPre_ids_in_range_finite)
-- ==== Pre_ids_in_range.lean ====
abbrev S4096x128 : Shape := ⟨2, ![4096, 128]⟩
abbrev S4096 : Shape := ⟨1, ![4096]⟩
abbrev S100000x32 : Shape := ⟨2, ![100000, 32]⟩
abbrev S1000x16 : Shape := ⟨2, ![1000, 16]⟩
abbrev S208x512 : Shape := ⟨2, ![208, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn_part1 {F : FTy → Type} [FloatOps F] (main_arg3 : IVec S4096 32) (main_v12 : IVec S_ 1) (main_v14 : IVec S4096 1) (main_v15 : IVec S4096 32) : IVec S_ 1 :=
  let main_v16 : IVec S4096 1 := cmpi .slt main_arg3 main_v15
  let main_v17 : IVec S4096 1 := andi main_v14 main_v16
  let main_c_7 : IVec S_ 1 := constantI S_ 1 1#1
  let main_v18 : IVec S_ 1 := (fun x v => Host.reduce IntOp.andi x v reducesTo_S4096_S_d0 h_S_) main_v17 main_c_7
  let main_v19 : IVec S_ 1 := andi main_v12 main_v18
  main_v19

def fn {F : FTy → Type} [FloatOps F] (main_arg0 : FVec F S4096x128 .f32) (main_arg1 : IVec S4096 32) (main_arg2 : IVec S4096 32) (main_arg3 : IVec S4096 32) (main_arg4 : FVec F S100000x32 .f32) (main_arg5 : FVec F S100000x32 .f32) (main_arg6 : FVec F S1000x16 .f32) (main_arg7 : FVec F S208x512 .f32) (main_arg8 : FVec F S512 .f32) (main_arg9 : FVec F S512x256 .f32) (main_arg10 : FVec F S256 .f32) (main_arg11 : FVec F S256x128 .f32) (main_arg12 : FVec F S128 .f32) (main_arg13 : FVec F S128x256 .f32) (main_arg14 : FVec F S256 .f32) (main_arg15 : FVec F S512 .f32) (main_arg16 : FVec F S512 .f32) (main_arg17 : FVec F S256 .f32) (main_arg18 : FVec F S256 .f32) (main_arg19 : FVec F S128 .f32) (main_arg20 : FVec F S128 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 100000#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg2 main_v6
  let main_c_3 : IVec S_ 32 := constantI S_ 32 100000#32
  let main_v8 : IVec S4096 32 := broadcastInDim S4096 ![] bcast_S_S4096 main_c_3
  let main_v9 : IVec S4096 1 := cmpi .slt main_arg2 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_c_5 : IVec S_ 32 := constantI S_ 32 0#32
  let main_v13 : IVec S4096 32 := broadcastInDim S4096 ![] bcast_S_S4096 main_c_5
  let main_v14 : IVec S4096 1 := cmpi .sge main_arg3 main_v13
  let main_c_6 : IVec S_ 32 := constantI S_ 32 1000#32
  let main_v15 : IVec S4096 32 := broadcastInDim S4096 ![] bcast_S_S4096 main_c_6
  fn_part1 (F := F) main_arg3 main_v12 main_v14 main_v15
-- ==== Pre_ids_in_range_finite.lean ====
abbrev S4096x128 : Shape := ⟨2, ![4096, 128]⟩
abbrev S4096 : Shape := ⟨1, ![4096]⟩
abbrev S100000x32 : Shape := ⟨2, ![100000, 32]⟩
abbrev S1000x16 : Shape := ⟨2, ![1000, 16]⟩
abbrev S208x512 : Shape := ⟨2, ![208, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S100000x32 : S_.BroadcastsInDim S100000x32 (![] : Fin 0 → Fin S100000x32.rank)
  reducesTo_S100000x32_S_d0_1 : S100000x32.ReducesTo [0, 1] S_
  bcast_S_S1000x16 : S_.BroadcastsInDim S1000x16 (![] : Fin 0 → Fin S1000x16.rank)
  reducesTo_S1000x16_S_d0_1 : S1000x16.ReducesTo [0, 1] S_
  bcast_S_S208x512 : S_.BroadcastsInDim S208x512 (![] : Fin 0 → Fin S208x512.rank)
  reducesTo_S208x512_S_d0_1 : S208x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_

variable [Facts]

def fn_part4 {F : FTy → Type} [FloatOps F] (main_arg17 : FVec F S256 .f32) (main_arg18 : FVec F S256 .f32) (main_arg19 : FVec F S128 .f32) (main_v64 : IVec S_ 1) (main_v67 : IVec S512 1) : IVec S_ 1 :=
  let main_c_26 : IVec S_ 1 := constantI S_ 1 1#1
  let main_v68 : IVec S_ 1 := (fun x v => Host.reduce IntOp.andi x v reducesTo_S512_S_d0 h_S_) main_v67 main_c_26
  let main_v69 : IVec S_ 1 := andi main_v64 main_v68
  let main_v70 : FVec F S256 .f32 := Host.absf main_arg17
  let main_cst_27 : FVec F S_ .f32 := constant S_ .f32 0x7F800000#32
  let main_v71 : FVec F S256 .f32 := broadcastInDim S256 ![] bcast_S_S256 main_cst_27
  let main_v72 : IVec S256 1 := cmpf .olt main_v70 main_v71
  let main_c_28 : IVec S_ 1 := constantI S_ 1 1#1
  let main_v73 : IVec S_ 1 := (fun x v => Host.reduce IntOp.andi x v reducesTo_S256_S_d0 h_S_) main_v72 main_c_28
  let main_v74 : IVec S_ 1 := andi main_v69 main_v73
  let main_v75 : FVec F S256 .f32 := Host.absf main_arg18
  let main_cst_29 : FVec F S_ .f32 := constant S_ .f32 0x7F800000#32
  let main_v76 : FVec F S256 .f32 := broadcastInDim S256 ![] bcast_S_S256 main_cst_29
  let main_v77 : IVec S256 1 := cmpf .olt main_v75 main_v76
  let main_c_30 : IVec S_ 1 := constantI S_ 1 1#1
  let main_v78 : IVec S_ 1 := (fun x v => Host.reduce IntOp.andi x v reducesTo_S256_S_d0 h_S_) main_v77 main_c_30
  let main_v79 : IVec S_ 1 := andi main_v74 main_v78
  let main_v80 : FVec F S128 .f32 := Host.absf main_arg19
  let main_cst_31 : FVec F S_ .f32 := constant S_ .f32 0x7F800000#32
  let main_v81 : FVec F S128 .f32 := broadcastInDim S128 ![] bcast_S_S128 main_cst_31
  let main_v82 : IVec S128 1 := cmpf .olt main_v80 main_v81
  let main_c_32 : IVec S_ 1 := constantI S_ 1 1#1
  let main_v83 : IVec S_ 1 := (fun x v => Host.reduce IntOp.andi x v reducesTo_S128_S_d0 h_S_) main_v82 main_c_32
  let main_v84 : IVec S_ 1 := andi main_v79 main_v83
  main_v84

def fn_part3 {F : FTy → Type} [FloatOps F] (main_arg11 : FVec F S256x128 .f32) (main_arg12 : FVec F S128 .f32) (main_arg15 : FVec F S512 .f32) (main_arg17 : FVec F S256 .f32) (main_arg18 : FVec F S256 .f32) (main_arg19 : FVec F S128 .f32) (main_v49 : IVec S_ 1) (main_v50 : FVec F S512x256 .f32) : IVec S_ 1 :=
  let main_cst_19 : FVec F S_ .f32 := constant S_ .f32 0x7F800000#32
  let main_v51 : FVec F S512x256 .f32 := broadcastInDim S512x256 ![] bcast_S_S512x256 main_cst_19
  let main_v52 : IVec S512x256 1 := cmpf .olt main_v50 main_v51
  let main_c_20 : IVec S_ 1 := constantI S_ 1 1#1
  let main_v53 : IVec S_ 1 := (fun x v => Host.reduce IntOp.andi x v reducesTo_S512x256_S_d0_1 h_S_) main_v52 main_c_20
  let main_v54 : IVec S_ 1 := andi main_v49 main_v53
  let main_v55 : FVec F S256x128 .f32 := Host.absf main_arg11
  let main_cst_21 : FVec F S_ .f32 := constant S_ .f32 0x7F800000#32
  let main_v56 : FVec F S256x128 .f32 := broadcastInDim S256x128 ![] bcast_S_S256x128 main_cst_21
  let main_v57 : IVec S256x128 1 := cmpf .olt main_v55 main_v56
  let main_c_22 : IVec S_ 1 := constantI S_ 1 1#1
  let main_v58 : IVec S_ 1 := (fun x v => Host.reduce IntOp.andi x v reducesTo_S256x128_S_d0_1 h_S_) main_v57 main_c_22
  let main_v59 : IVec S_ 1 := andi main_v54 main_v58
  let main_v60 : FVec F S128 .f32 := Host.absf main_arg12
  let main_cst_23 : FVec F S_ .f32 := constant S_ .f32 0x7F800000#32
  let main_v61 : FVec F S128 .f32 := broadcastInDim S128 ![] bcast_S_S128 main_cst_23
  let main_v62 : IVec S128 1 := cmpf .olt main_v60 main_v61
  let main_c_24 : IVec S_ 1 := constantI S_ 1 1#1
  let main_v63 : IVec S_ 1 := (fun x v => Host.reduce IntOp.andi x v reducesTo_S128_S_d0 h_S_) main_v62 main_c_24
  let main_v64 : IVec S_ 1 := andi main_v59 main_v63
  let main_v65 : FVec F S512 .f32 := Host.absf main_arg15
  let main_cst_25 : FVec F S_ .f32 := constant S_ .f32 0x7F800000#32
  let main_v66 : FVec F S512 .f32 := broadcastInDim S512 ![] bcast_S_S512 main_cst_25
  let main_v67 : IVec S512 1 := cmpf .olt main_v65 main_v66
  fn_part4 (F := F) main_arg17 main_arg18 main_arg19 main_v64 main_v67

def fn_part2 {F : FTy → Type} [FloatOps F] (main_arg6 : FVec F S1000x16 .f32) (main_arg7 : FVec F S208x512 .f32) (main_arg8 : FVec F S512 .f32) (main_arg9 : FVec F S512x256 .f32) (main_arg11 : FVec F S256x128 .f32) (main_arg12 : FVec F S128 .f32) (main_arg15 : FVec F S512 .f32) (main_arg17 : FVec F S256 .f32) (main_arg18 : FVec F S256 .f32) (main_arg19 : FVec F S128 .f32) (main_v29 : IVec S_ 1) (main_v32 : IVec S100000x32 1) (main_c_12 : IVec S_ 1) : IVec S_ 1 :=
  let main_v33 : IVec S_ 1 := (fun x v => Host.reduce IntOp.andi x v reducesTo_S100000x32_S_d0_1 h_S_) main_v32 main_c_12
  let main_v34 : IVec S_ 1 := andi main_v29 main_v33
  let main_v35 : FVec F S1000x16 .f32 := Host.absf main_arg6
  let main_cst_13 : FVec F S_ .f32 := constant S_ .f32 0x7F800000#32
  let main_v36 : FVec F S1000x16 .f32 := broadcastInDim S1000x16 ![] bcast_S_S1000x16 main_cst_13
  let main_v37 : IVec S1000x16 1 := cmpf .olt main_v35 main_v36
  let main_c_14 : IVec S_ 1 := constantI S_ 1 1#1
  let main_v38 : IVec S_ 1 := (fun x v => Host.reduce IntOp.andi x v reducesTo_S1000x16_S_d0_1 h_S_) main_v37 main_c_14
  let main_v39 : IVec S_ 1 := andi main_v34 main_v38
  let main_v40 : FVec F S208x512 .f32 := Host.absf main_arg7
  let main_cst_15 : FVec F S_ .f32 := constant S_ .f32 0x7F800000#32
  let main_v41 : FVec F S208x512 .f32 := broadcastInDim S208x512 ![] bcast_S_S208x512 main_cst_15
  let main_v42 : IVec S208x512 1 := cmpf .olt main_v40 main_v41
  let main_c_16 : IVec S_ 1 := constantI S_ 1 1#1
  let main_v43 : IVec S_ 1 := (fun x v => Host.reduce IntOp.andi x v reducesTo_S208x512_S_d0_1 h_S_) main_v42 main_c_16
  let main_v44 : IVec S_ 1 := andi main_v39 main_v43
  let main_v45 : FVec F S512 .f32 := Host.absf main_arg8
  let main_cst_17 : FVec F S_ .f32 := constant S_ .f32 0x7F800000#32
  let main_v46 : FVec F S512 .f32 := broadcastInDim S512 ![] bcast_S_S512 main_cst_17
  let main_v47 : IVec S512 1 := cmpf .olt main_v45 main_v46
  let main_c_18 : IVec S_ 1 := constantI S_ 1 1#1
  let main_v48 : IVec S_ 1 := (fun x v => Host.reduce IntOp.andi x v reducesTo_S512_S_d0 h_S_) main_v47 main_c_18
  let main_v49 : IVec S_ 1 := andi main_v44 main_v48
  let main_v50 : FVec F S512x256 .f32 := Host.absf main_arg9
  fn_part3 (F := F) main_arg11 main_arg12 main_arg15 main_arg17 main_arg18 main_arg19 main_v49 main_v50

def fn_part1 {F : FTy → Type} [FloatOps F] (main_arg0 : FVec F S4096x128 .f32) (main_arg3 : IVec S4096 32) (main_arg4 : FVec F S100000x32 .f32) (main_arg5 : FVec F S100000x32 .f32) (main_arg6 : FVec F S1000x16 .f32) (main_arg7 : FVec F S208x512 .f32) (main_arg8 : FVec F S512 .f32) (main_arg9 : FVec F S512x256 .f32) (main_arg11 : FVec F S256x128 .f32) (main_arg12 : FVec F S128 .f32) (main_arg15 : FVec F S512 .f32) (main_arg17 : FVec F S256 .f32) (main_arg18 : FVec F S256 .f32) (main_arg19 : FVec F S128 .f32) (main_v12 : IVec S_ 1) (main_v14 : IVec S4096 1) (main_v15 : IVec S4096 32) : IVec S_ 1 :=
  let main_v16 : IVec S4096 1 := cmpi .slt main_arg3 main_v15
  let main_v17 : IVec S4096 1 := andi main_v14 main_v16
  let main_c_7 : IVec S_ 1 := constantI S_ 1 1#1
  let main_v18 : IVec S_ 1 := (fun x v => Host.reduce IntOp.andi x v reducesTo_S4096_S_d0 h_S_) main_v17 main_c_7
  let main_v19 : IVec S_ 1 := andi main_v12 main_v18
  let main_v20 : FVec F S4096x128 .f32 := Host.absf main_arg0
  let main_cst : FVec F S_ .f32 := constant S_ .f32 0x7F800000#32
  let main_v21 : FVec F S4096x128 .f32 := broadcastInDim S4096x128 ![] bcast_S_S4096x128 main_cst
  let main_v22 : IVec S4096x128 1 := cmpf .olt main_v20 main_v21
  let main_c_8 : IVec S_ 1 := constantI S_ 1 1#1
  let main_v23 : IVec S_ 1 := (fun x v => Host.reduce IntOp.andi x v reducesTo_S4096x128_S_d0_1 h_S_) main_v22 main_c_8
  let main_v24 : IVec S_ 1 := andi main_v19 main_v23
  let main_v25 : FVec F S100000x32 .f32 := Host.absf main_arg4
  let main_cst_9 : FVec F S_ .f32 := constant S_ .f32 0x7F800000#32
  let main_v26 : FVec F S100000x32 .f32 := broadcastInDim S100000x32 ![] bcast_S_S100000x32 main_cst_9
  let main_v27 : IVec S100000x32 1 := cmpf .olt main_v25 main_v26
  let main_c_10 : IVec S_ 1 := constantI S_ 1 1#1
  let main_v28 : IVec S_ 1 := (fun x v => Host.reduce IntOp.andi x v reducesTo_S100000x32_S_d0_1 h_S_) main_v27 main_c_10
  let main_v29 : IVec S_ 1 := andi main_v24 main_v28
  let main_v30 : FVec F S100000x32 .f32 := Host.absf main_arg5
  let main_cst_11 : FVec F S_ .f32 := constant S_ .f32 0x7F800000#32
  let main_v31 : FVec F S100000x32 .f32 := broadcastInDim S100000x32 ![] bcast_S_S100000x32 main_cst_11
  let main_v32 : IVec S100000x32 1 := cmpf .olt main_v30 main_v31
  let main_c_12 : IVec S_ 1 := constantI S_ 1 1#1
  fn_part2 (F := F) main_arg6 main_arg7 main_arg8 main_arg9 main_arg11 main_arg12 main_arg15 main_arg17 main_arg18 main_arg19 main_v29 main_v32 main_c_12

def fn {F : FTy → Type} [FloatOps F] (main_arg0 : FVec F S4096x128 .f32) (main_arg1 : IVec S4096 32) (main_arg2 : IVec S4096 32) (main_arg3 : IVec S4096 32) (main_arg4 : FVec F S100000x32 .f32) (main_arg5 : FVec F S100000x32 .f32) (main_arg6 : FVec F S1000x16 .f32) (main_arg7 : FVec F S208x512 .f32) (main_arg8 : FVec F S512 .f32) (main_arg9 : FVec F S512x256 .f32) (main_arg10 : FVec F S256 .f32) (main_arg11 : FVec F S256x128 .f32) (main_arg12 : FVec F S128 .f32) (main_arg13 : FVec F S128x256 .f32) (main_arg14 : FVec F S256 .f32) (main_arg15 : FVec F S512 .f32) (main_arg16 : FVec F S512 .f32) (main_arg17 : FVec F S256 .f32) (main_arg18 : FVec F S256 .f32) (main_arg19 : FVec F S128 .f32) (main_arg20 : FVec F S128 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 100000#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg2 main_v6
  let main_c_3 : IVec S_ 32 := constantI S_ 32 100000#32
  let main_v8 : IVec S4096 32 := broadcastInDim S4096 ![] bcast_S_S4096 main_c_3
  let main_v9 : IVec S4096 1 := cmpi .slt main_arg2 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_c_5 : IVec S_ 32 := constantI S_ 32 0#32
  let main_v13 : IVec S4096 32 := broadcastInDim S4096 ![] bcast_S_S4096 main_c_5
  let main_v14 : IVec S4096 1 := cmpi .sge main_arg3 main_v13
  let main_c_6 : IVec S_ 32 := constantI S_ 32 1000#32
  let main_v15 : IVec S4096 32 := broadcastInDim S4096 ![] bcast_S_S4096 main_c_6
  fn_part1 (F := F) main_arg0 main_arg3 main_arg4 main_arg5 main_arg6 main_arg7 main_arg8 main_arg9 main_arg11 main_arg12 main_arg15 main_arg17 main_arg18 main_arg19 main_v12 main_v14 main_v15
-- ==== Kernel.lean ====
abbrev S4096x128 : Shape := ⟨2, ![4096, 128]⟩
abbrev S4096 : Shape := ⟨1, ![4096]⟩
abbrev S100000x32 : Shape := ⟨2, ![100000, 32]⟩
abbrev S1000x16 : Shape := ⟨2, ![1000, 16]⟩
abbrev S208x512 : Shape := ⟨2, ![208, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S32x100000 : Shape := ⟨2, ![32, 100000]⟩
abbrev S4x8x100000 : Shape := ⟨3, ![4, 8, 100000]⟩
abbrev S16x1000 : Shape := ⟨2, ![16, 1000]⟩
abbrev S2x8x1000 : Shape := ⟨3, ![2, 8, 1000]⟩
abbrev S32x4096 : Shape := ⟨2, ![32, 4096]⟩
abbrev S16x4096 : Shape := ⟨2, ![16, 4096]⟩
abbrev S100000 : Shape := ⟨1, ![100000]⟩
abbrev S1000 : Shape := ⟨1, ![1000]⟩
abbrev S_ : Shape := ⟨0, ![]⟩
abbrev S1x1x100000 : Shape := ⟨3, ![1, 1, 100000]⟩
abbrev S1x1x1000 : Shape := ⟨3, ![1, 1, 1000]⟩
abbrev S16 : Shape := ⟨1, ![16]⟩
abbrev S1x4096 : Shape := ⟨2, ![1, 4096]⟩
abbrev S128x512 : Shape := ⟨2, ![128, 512]⟩
abbrev S32x512 : Shape := ⟨2, ![32, 512]⟩
abbrev S16x512 : Shape := ⟨2, ![16, 512]⟩
abbrev S1x512 : Shape := ⟨2, ![1, 512]⟩
abbrev S1x256 : Shape := ⟨2, ![1, 256]⟩
abbrev S1x128 : Shape := ⟨2, ![1, 128]⟩
abbrev S4096x256 : Shape := ⟨2, ![4096, 256]⟩
abbrev S4096x512 : Shape := ⟨2, ![4096, 512]⟩

abbrev nBuf : Table → Nat
  | .hbm => 45
  | .local .tc .vmem => 22
  | .local .scVector .vmem => 6
  | _ => 0

abbrev bufTy : (tb : Table) → Fin (nBuf tb) → BufTy
  | .hbm, ⟨0, _⟩ => ⟨S4096x128, .f32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S100000x32, .f32⟩
  | .hbm, ⟨5, _⟩ => ⟨S100000x32, .f32⟩
  | .hbm, ⟨6, _⟩ => ⟨S1000x16, .f32⟩
  | .hbm, ⟨7, _⟩ => ⟨S208x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S512, .f32⟩
  | .hbm, ⟨16, _⟩ => ⟨S512, .f32⟩
  | .hbm, ⟨17, _⟩ => ⟨S256, .f32⟩
  | .hbm, ⟨18, _⟩ => ⟨S256, .f32⟩
  | .hbm, ⟨19, _⟩ => ⟨S128, .f32⟩
  | .hbm, ⟨20, _⟩ => ⟨S128, .f32⟩
  | .hbm, ⟨21, _⟩ => ⟨S32x100000, .f32⟩
  | .hbm, ⟨22, _⟩ => ⟨S4x8x100000, .f32⟩
  | .hbm, ⟨23, _⟩ => ⟨S32x100000, .f32⟩
  | .hbm, ⟨24, _⟩ => ⟨S4x8x100000, .f32⟩
  | .hbm, ⟨25, _⟩ => ⟨S16x1000, .f32⟩
  | .hbm, ⟨26, _⟩ => ⟨S2x8x1000, .f32⟩
  | .hbm, ⟨27, _⟩ => ⟨S32x4096, .f32⟩
  | .hbm, ⟨28, _⟩ => ⟨S32x4096, .f32⟩
  | .hbm, ⟨29, _⟩ => ⟨S16x4096, .f32⟩
  | .hbm, ⟨30, _⟩ => ⟨S128x512, .f32⟩
  | .hbm, ⟨31, _⟩ => ⟨S32x512, .f32⟩
  | .hbm, ⟨32, _⟩ => ⟨S32x512, .f32⟩
  | .hbm, ⟨33, _⟩ => ⟨S16x512, .f32⟩
  | .hbm, ⟨34, _⟩ => ⟨S1x512, .f32⟩
  | .hbm, ⟨35, _⟩ => ⟨S1x256, .f32⟩
  | .hbm, ⟨36, _⟩ => ⟨S1x128, .f32⟩
  | .hbm, ⟨37, _⟩ => ⟨S1x256, .f32⟩
  | .hbm, ⟨38, _⟩ => ⟨S1x512, .f32⟩
  | .hbm, ⟨39, _⟩ => ⟨S1x512, .f32⟩
  | .hbm, ⟨40, _⟩ => ⟨S1x256, .f32⟩
  | .hbm, ⟨41, _⟩ => ⟨S1x256, .f32⟩
  | .hbm, ⟨42, _⟩ => ⟨S1x128, .f32⟩
  | .hbm, ⟨43, _⟩ => ⟨S1x128, .f32⟩
  | .hbm, ⟨44, _⟩ => ⟨S4096x256, .f32⟩
  | .local .tc .vmem, ⟨0, _⟩ => ⟨S4096x128, .f32⟩
  | .local .tc .vmem, ⟨1, _⟩ => ⟨S32x4096, .f32⟩
  | .local .tc .vmem, ⟨2, _⟩ => ⟨S32x4096, .f32⟩
  | .local .tc .vmem, ⟨3, _⟩ => ⟨S16x4096, .f32⟩
  | .local .tc .vmem, ⟨4, _⟩ => ⟨S128x512, .f32⟩
  | .local .tc .vmem, ⟨5, _⟩ => ⟨S32x512, .f32⟩
  | .local .tc .vmem, ⟨6, _⟩ => ⟨S32x512, .f32⟩
  | .local .tc .vmem, ⟨7, _⟩ => ⟨S16x512, .f32⟩
  | .local .tc .vmem, ⟨8, _⟩ => ⟨S1x512, .f32⟩
  | .local .tc .vmem, ⟨9, _⟩ => ⟨S512x256, .f32⟩
  | .local .tc .vmem, ⟨10, _⟩ => ⟨S1x256, .f32⟩
  | .local .tc .vmem, ⟨11, _⟩ => ⟨S256x128, .f32⟩
  | .local .tc .vmem, ⟨12, _⟩ => ⟨S1x128, .f32⟩
  | .local .tc .vmem, ⟨13, _⟩ => ⟨S128x256, .f32⟩
  | .local .tc .vmem, ⟨14, _⟩ => ⟨S1x256, .f32⟩
  | .local .tc .vmem, ⟨15, _⟩ => ⟨S1x512, .f32⟩
  | .local .tc .vmem, ⟨16, _⟩ => ⟨S1x512, .f32⟩
  | .local .tc .vmem, ⟨17, _⟩ => ⟨S1x256, .f32⟩
  | .local .tc .vmem, ⟨18, _⟩ => ⟨S1x256, .f32⟩
  | .local .tc .vmem, ⟨19, _⟩ => ⟨S1x128, .f32⟩
  | .local .tc .vmem, ⟨20, _⟩ => ⟨S1x128, .f32⟩
  | .local .tc .vmem, ⟨21, _⟩ => ⟨S4096x256, .f32⟩
  | .local .scVector .vmem, ⟨0, _⟩ => ⟨S4096, .i32⟩
  | .local .scVector .vmem, ⟨1, _⟩ => ⟨S4096, .i32⟩
  | .local .scVector .vmem, ⟨2, _⟩ => ⟨S4096, .i32⟩
  | .local .scVector .vmem, ⟨3, _⟩ => ⟨S4096, .f32⟩
  | .local .scVector .vmem, ⟨4, _⟩ => ⟨S100000, .f32⟩
  | .local .scVector .vmem, ⟨5, _⟩ => ⟨S1000, .f32⟩
  | _, _ => ⟨S4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6_0 : Ref sig .tc := ⟨.hbm, 27, rfl⟩
abbrev main_v6_1 : Ref sig .tc := ⟨.hbm, 28, rfl⟩
abbrev main_v6_2 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v1_scv : Ref sig .scVector := ⟨.hbm, 22, rfl⟩
abbrev main_v3_scv : Ref sig .scVector := ⟨.hbm, 24, rfl⟩
abbrev main_v5_scv : Ref sig .scVector := ⟨.hbm, 26, rfl⟩
abbrev main_v6_0_scv : Ref sig .scVector := ⟨.hbm, 27, rfl⟩
abbrev main_v6_1_scv : Ref sig .scVector := ⟨.hbm, 28, rfl⟩
abbrev main_v6_2_scv : Ref sig .scVector := ⟨.hbm, 29, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_stg12_0 : Ref sig .tc := ⟨.vmem, 12, rfl⟩
abbrev cc1_stg13_0 : Ref sig .tc := ⟨.vmem, 13, rfl⟩
abbrev cc1_stg14_0 : Ref sig .tc := ⟨.vmem, 14, rfl⟩
abbrev cc1_stg15_0 : Ref sig .tc := ⟨.vmem, 15, rfl⟩
abbrev cc1_stg16_0 : Ref sig .tc := ⟨.vmem, 16, rfl⟩
abbrev cc1_stg17_0 : Ref sig .tc := ⟨.vmem, 17, rfl⟩
abbrev cc1_stg18_0 : Ref sig .tc := ⟨.vmem, 18, rfl⟩
abbrev cc1_stg19_0 : Ref sig .tc := ⟨.vmem, 19, rfl⟩
abbrev cc1_stg20_0 : Ref sig .tc := ⟨.vmem, 20, rfl⟩
abbrev cc1_stg21_0 : Ref sig .tc := ⟨.vmem, 21, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23
abbrev cc1_sem16_0 : DmaSem sig := 24
abbrev cc1_sem17_0 : DmaSem sig := 25
abbrev cc1_sem18_0 : DmaSem sig := 26
abbrev cc1_sem19_0 : DmaSem sig := 27
abbrev cc1_sem20_0 : DmaSem sig := 28
abbrev cc1_sem21_0 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.shrsi v1 c3_i32
  let c7_i32 : BitVec 32 := 7#32
  let v3 : BitVec 32 := Scalar.andi v1 c7_i32
  let c0_i32 : BitVec 32 := 0#32
  ![v2.toNat, v3.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v8 : BitVec 1 := Scalar.cmpi .slt v1 c16_i32
  let v9 : BitVec 32 := Scalar.extui v8
  let c0_i32_1 : BitVec 32 := 0#32
  let v10 : BitVec 1 := Scalar.cmpi .ne v9 c0_i32_1
  v10

def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_16 : BitVec 32 := 3#32
  let v30 : BitVec 32 := Scalar.shrsi v1 c3_i32_16
  let c7_i32_17 : BitVec 32 := 7#32
  let v31 : BitVec 32 := Scalar.andi v1 c7_i32_17
  let c0_i32_18 : BitVec 32 := 0#32
  ![v30.toNat, v31.toNat, 0]
@[reducible] def k0_t1_loop : Scf.Loop 32 :=
  let c0_i32_4 : BitVec 32 := 0#32
  let c256_i32 : BitVec 32 := 256#32
  let v15 : BitVec 32 := Scalar.addi c0_i32_4 c256_i32
  let c1_i32 : BitVec 32 := 1#32
  ⟨c0_i32_4, v15, c1_i32⟩
def k0_off3 (k0_t1 : Fin k0_t1_loop.trips) : Fin 1 → Nat :=
  let c0_i32_17 : BitVec 32 := 0#32
  let c0_i32_4 : BitVec 32 := 0#32
  let c1_i32 : BitVec 32 := 1#32
  let arg22 : BitVec 32 := Scf.iv c0_i32_4 c1_i32 k0_t1
  let c16_i32_16 : BitVec 32 := 16#32
  let v30 : BitVec 32 := Scalar.muli arg22 c16_i32_16
  let v31 : BitVec 32 := Scalar.addi c0_i32_17 v30
  let v32 : Index := Scalar.indexCast v31
  ![v32.toNat]

def k0_chk1 (v33 : IVec S16 32) : Prop :=
  (∀ a x, ((![v33] : Fin 1 → IVec S16 32) a x).toNat < S100000.size a)
theorem k0_idx1_inb : ∀ (v33 : IVec S16 32) (k0_hw1 : k0_chk1 v33), ∀ a x, ((![v33] : Fin 1 → IVec S16 32) a x).toNat < S100000.size a := fun v33 k0_hw1 => k0_hw1
def k0_off4 (k0_t1 : Fin k0_t1_loop.trips) : Fin 1 → Nat :=
  let c0_i32_17 : BitVec 32 := 0#32
  let c0_i32_4 : BitVec 32 := 0#32
  let c1_i32 : BitVec 32 := 1#32
  let arg22 : BitVec 32 := Scf.iv c0_i32_4 c1_i32 k0_t1
  let c16_i32_16 : BitVec 32 := 16#32
  let v30 : BitVec 32 := Scalar.muli arg22 c16_i32_16
  let v31 : BitVec 32 := Scalar.addi c0_i32_17 v30
  let v35 : Index := Scalar.indexCast v31
  ![v35.toNat]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16_r0 : BitVec 32 := 0#32
  ![v1.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v8 : BitVec 1 := Scalar.cmpi .slt v1 c16_i32
  let v20 : BitVec 32 := Scalar.extui v8
  let c0_i32_8 : BitVec 32 := 0#32
  let v21 : BitVec 1 := Scalar.cmpi .ne v20 c0_i32_8
  v21

@[reducible] def k0_t2_loop : Scf.Loop 32 :=
  let c0_i32_16 : BitVec 32 := 0#32
  let c256_i32_17 : BitVec 32 := 256#32
  let v30 : BitVec 32 := Scalar.addi c0_i32_16 c256_i32_17
  let c1_i32_18 : BitVec 32 := 1#32
  ⟨c0_i32_16, v30, c1_i32_18⟩
def k0_off6 (k0_t2 : Fin k0_t2_loop.trips) : Fin 1 → Nat :=
  let c0_i32_21 : BitVec 32 := 0#32
  let c0_i32_16 : BitVec 32 := 0#32
  let c1_i32_18 : BitVec 32 := 1#32
  let arg22 : BitVec 32 := Scf.iv c0_i32_16 c1_i32_18 k0_t2
  let c16_i32_20 : BitVec 32 := 16#32
  let v31 : BitVec 32 := Scalar.muli arg22 c16_i32_20
  let v32 : BitVec 32 := Scalar.addi c0_i32_21 v31
  let v33 : Index := Scalar.indexCast v32
  ![v33.toNat]

def k0_chk2 (i : grid0.Coords) (v34 : IVec S16 32) : Prop :=
  (∀ (k0_h2 : k0_cond2 i = 1#1), ∀ a x, ((![v34] : Fin 1 → IVec S16 32) a x).toNat < S1000.size a)
theorem k0_idx2_inb : ∀ (i : grid0.Coords) (v34 : IVec S16 32) (k0_hw2 : k0_chk2 i v34), ∀ (k0_h2 : k0_cond2 i = 1#1), ∀ a x, ((![v34] : Fin 1 → IVec S16 32) a x).toNat < S1000.size a := fun i v34 k0_hw2 k0_h2 => k0_hw2 k0_h2
def k0_off7 (k0_t2 : Fin k0_t2_loop.trips) : Fin 1 → Nat :=
  let c0_i32_21 : BitVec 32 := 0#32
  let c0_i32_16 : BitVec 32 := 0#32
  let c1_i32_18 : BitVec 32 := 1#32
  let arg22 : BitVec 32 := Scf.iv c0_i32_16 c1_i32_18 k0_t2
  let c16_i32_20 : BitVec 32 := 16#32
  let v31 : BitVec 32 := Scalar.muli arg22 c16_i32_20
  let v32 : BitVec 32 := Scalar.addi c0_i32_21 v31
  let v36 : Index := Scalar.indexCast v32
  ![v36.toNat]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r1 : BitVec 32 := 0#32
  ![v1.toNat, 0]
@[reducible] def k0_t3_loop : Scf.Loop 32 :=
  let c0_i32_12 : BitVec 32 := 0#32
  let c256_i32_13 : BitVec 32 := 256#32
  let v29 : BitVec 32 := Scalar.addi c0_i32_12 c256_i32_13
  let c1_i32_14 : BitVec 32 := 1#32
  ⟨c0_i32_12, v29, c1_i32_14⟩
def k0_off9 (k0_t3 : Fin k0_t3_loop.trips) : Fin 1 → Nat :=
  let c0_i32_17 : BitVec 32 := 0#32
  let c0_i32_12 : BitVec 32 := 0#32
  let c1_i32_14 : BitVec 32 := 1#32
  let arg22 : BitVec 32 := Scf.iv c0_i32_12 c1_i32_14 k0_t3
  let c16_i32_16 : BitVec 32 := 16#32
  let v30 : BitVec 32 := Scalar.muli arg22 c16_i32_16
  let v31 : BitVec 32 := Scalar.addi c0_i32_17 v30
  let v32 : Index := Scalar.indexCast v31
  ![v32.toNat]

def k0_chk3 (v33 : IVec S16 32) : Prop :=
  (∀ a x, ((![v33] : Fin 1 → IVec S16 32) a x).toNat < S100000.size a)
theorem k0_idx3_inb : ∀ (v33 : IVec S16 32) (k0_hw3 : k0_chk3 v33), ∀ a x, ((![v33] : Fin 1 → IVec S16 32) a x).toNat < S100000.size a := fun v33 k0_hw3 => k0_hw3
def k0_off10 (k0_t3 : Fin k0_t3_loop.trips) : Fin 1 → Nat :=
  let c0_i32_17 : BitVec 32 := 0#32
  let c0_i32_12 : BitVec 32 := 0#32
  let c1_i32_14 : BitVec 32 := 1#32
  let arg22 : BitVec 32 := Scf.iv c0_i32_12 c1_i32_14 k0_t3
  let c16_i32_16 : BitVec 32 := 16#32
  let v30 : BitVec 32 := Scalar.muli arg22 c16_i32_16
  let v31 : BitVec 32 := Scalar.addi c0_i32_17 v30
  let v35 : Index := Scalar.indexCast v31
  ![v35.toNat]
abbrev grid1 : Pipeline.Grid := .none

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S32x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S32x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S512x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S256x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S128x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S1x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S1x512 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S1x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S1x256 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S1x128 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev stage1_20 : Fin 1 → Memref sig .tc .vmem S1x128 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))

abbrev stage1_21 : Fin 1 → Memref sig .tc .vmem S4096x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x128 : Shape := ⟨2, ![4096, 128]⟩
abbrev S4096 : Shape := ⟨1, ![4096]⟩
abbrev S100000x32 : Shape := ⟨2, ![100000, 32]⟩
abbrev S1000x16 : Shape := ⟨2, ![1000, 16]⟩
abbrev S208x512 : Shape := ⟨2, ![208, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x32 : Shape := ⟨2, ![4096, 32]⟩
abbrev S4096x16 : Shape := ⟨2, ![4096, 16]⟩
abbrev S4096x208 : Shape := ⟨2, ![4096, 208]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S1x128 : Shape := ⟨2, ![1, 128]⟩

abbrev nBuf : Space → Nat
  | .hbm => 230
  | .vmem => 0
  | .smem => 0
  | _ => 0

abbrev hbmTy0_0 (i : Nat) : BufTy := match i % 128 with
  | 0 => ⟨S4096x128, .f32⟩
  | 1 => ⟨S4096, .i32⟩
  | 2 => ⟨S4096, .i32⟩
  | 3 => ⟨S4096, .i32⟩
  | 4 => ⟨S100000x32, .f32⟩
  | 5 => ⟨S100000x32, .f32⟩
  | 6 => ⟨S1000x16, .f32⟩
  | 7 => ⟨S208x512, .f32⟩
  | 8 => ⟨S512, .f32⟩
  | 9 => ⟨S512x256, .f32⟩
  | 10 => ⟨S256, .f32⟩
  | 11 => ⟨S256x128, .f32⟩
  | 12 => ⟨S128, .f32⟩
  | 13 => ⟨S128x256, .f32⟩
  | 14 => ⟨S256, .f32⟩
  | 15 => ⟨S512, .f32⟩
  | 16 => ⟨S512, .f32⟩
  | 17 => ⟨S256, .f32⟩
  | 18 => ⟨S256, .f32⟩
  | 19 => ⟨S128, .f32⟩
  | 20 => ⟨S128, .f32⟩
  | 21 => ⟨S_, .i32⟩
  | 22 => ⟨S_, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S_, .i32⟩
  | 30 => ⟨S_, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S_, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S4096x1, .i32⟩
  | 53 => ⟨S1, .i32⟩
  | 54 => ⟨S_, .i32⟩
  | 55 => ⟨S4096x1, .i32⟩
  | 56 => ⟨S4096x1, .i1⟩
  | 57 => ⟨S1x1, .i32⟩
  | 58 => ⟨S4096x1, .i32⟩
  | 59 => ⟨S4096x1, .i1⟩
  | 60 => ⟨S4096x1, .i1⟩
  | 61 => ⟨S_, .i1⟩
  | 62 => ⟨S4096, .i1⟩
  | 63 => ⟨S4096x32, .f32⟩
  | 64 => ⟨S4096x32, .i1⟩
  | 65 => ⟨S_, .f32⟩
  | 66 => ⟨S4096x32, .f32⟩
  | 67 => ⟨S4096x32, .f32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S1, .i32⟩
  | 77 => ⟨S_, .i32⟩
  | 78 => ⟨S4096x1, .i32⟩
  | 79 => ⟨S4096x1, .i1⟩
  | 80 => ⟨S1x1, .i32⟩
  | 81 => ⟨S4096x1, .i32⟩
  | 82 => ⟨S4096x1, .i1⟩
  | 83 => ⟨S4096x1, .i1⟩
  | 84 => ⟨S_, .i1⟩
  | 85 => ⟨S4096, .i1⟩
  | 86 => ⟨S4096x32, .f32⟩
  | 87 => ⟨S4096x32, .i1⟩
  | 88 => ⟨S_, .f32⟩
  | 89 => ⟨S4096x32, .f32⟩
  | 90 => ⟨S4096x32, .f32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S1, .i32⟩
  | 100 => ⟨S_, .i32⟩
  | 101 => ⟨S4096x1, .i32⟩
  | 102 => ⟨S4096x1, .i1⟩
  | 103 => ⟨S1x1, .i32⟩
  | 104 => ⟨S4096x1, .i32⟩
  | 105 => ⟨S4096x1, .i1⟩
  | 106 => ⟨S4096x1, .i1⟩
  | 107 => ⟨S_, .i1⟩
  | 108 => ⟨S4096, .i1⟩
  | 109 => ⟨S4096x16, .f32⟩
  | 110 => ⟨S4096x16, .i1⟩
  | 111 => ⟨S_, .f32⟩
  | 112 => ⟨S4096x16, .f32⟩
  | 113 => ⟨S4096x16, .f32⟩
  | 114 => ⟨S4096x208, .f32⟩
  | 115 => ⟨S4096x512, .f32⟩
  | 116 => ⟨S1x512, .f32⟩
  | 117 => ⟨S4096x512, .f32⟩
  | 118 => ⟨S4096x512, .f32⟩
  | 119 => ⟨S_, .f32⟩
  | 120 => ⟨S512, .f32⟩
  | 121 => ⟨S_, .f32⟩
  | 122 => ⟨S512, .f32⟩
  | 123 => ⟨S512, .f32⟩
  | 124 => ⟨S1x512, .f32⟩
  | 125 => ⟨S4096x512, .f32⟩
  | 126 => ⟨S4096x512, .f32⟩
  | 127 => ⟨S4096x512, .f32⟩
  | _ => ⟨S4096x128, .f32⟩

abbrev hbmTy0_1 (i : Nat) : BufTy := match i % 128 with
  | 0 => ⟨S_, .f32⟩
  | 1 => ⟨S512, .f32⟩
  | 2 => ⟨S_, .f32⟩
  | 3 => ⟨S512, .f32⟩
  | 4 => ⟨S512, .f32⟩
  | 5 => ⟨S1x512, .f32⟩
  | 6 => ⟨S4096x512, .f32⟩
  | 7 => ⟨S4096x512, .f32⟩
  | 8 => ⟨S_, .f32⟩
  | 9 => ⟨S512, .f32⟩
  | 10 => ⟨S512, .f32⟩
  | 11 => ⟨S512, .f32⟩
  | 12 => ⟨S1x512, .f32⟩
  | 13 => ⟨S4096x512, .f32⟩
  | 14 => ⟨S4096x512, .f32⟩
  | 15 => ⟨S1x512, .f32⟩
  | 16 => ⟨S4096x512, .f32⟩
  | 17 => ⟨S4096x512, .f32⟩
  | 18 => ⟨S1x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S4096x256, .f32⟩
  | 25 => ⟨S1x256, .f32⟩
  | 26 => ⟨S4096x256, .f32⟩
  | 27 => ⟨S4096x256, .f32⟩
  | 28 => ⟨S_, .f32⟩
  | 29 => ⟨S256, .f32⟩
  | 30 => ⟨S_, .f32⟩
  | 31 => ⟨S256, .f32⟩
  | 32 => ⟨S256, .f32⟩
  | 33 => ⟨S1x256, .f32⟩
  | 34 => ⟨S4096x256, .f32⟩
  | 35 => ⟨S4096x256, .f32⟩
  | 36 => ⟨S4096x256, .f32⟩
  | 37 => ⟨S_, .f32⟩
  | 38 => ⟨S256, .f32⟩
  | 39 => ⟨S_, .f32⟩
  | 40 => ⟨S256, .f32⟩
  | 41 => ⟨S256, .f32⟩
  | 42 => ⟨S1x256, .f32⟩
  | 43 => ⟨S4096x256, .f32⟩
  | 44 => ⟨S4096x256, .f32⟩
  | 45 => ⟨S_, .f32⟩
  | 46 => ⟨S256, .f32⟩
  | 47 => ⟨S256, .f32⟩
  | 48 => ⟨S256, .f32⟩
  | 49 => ⟨S1x256, .f32⟩
  | 50 => ⟨S4096x256, .f32⟩
  | 51 => ⟨S4096x256, .f32⟩
  | 52 => ⟨S1x256, .f32⟩
  | 53 => ⟨S4096x256, .f32⟩
  | 54 => ⟨S4096x256, .f32⟩
  | 55 => ⟨S1x256, .f32⟩
  | 56 => ⟨S4096x256, .f32⟩
  | 57 => ⟨S4096x256, .f32⟩
  | 58 => ⟨S_, .f32⟩
  | 59 => ⟨S4096x256, .f32⟩
  | 60 => ⟨S4096x256, .f32⟩
  | 61 => ⟨S4096x128, .f32⟩
  | 62 => ⟨S1x128, .f32⟩
  | 63 => ⟨S4096x128, .f32⟩
  | 64 => ⟨S4096x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S4096x128, .f32⟩
  | 72 => ⟨S4096x128, .f32⟩
  | 73 => ⟨S4096x128, .f32⟩
  | 74 => ⟨S_, .f32⟩
  | 75 => ⟨S128, .f32⟩
  | 76 => ⟨S_, .f32⟩
  | 77 => ⟨S128, .f32⟩
  | 78 => ⟨S128, .f32⟩
  | 79 => ⟨S1x128, .f32⟩
  | 80 => ⟨S4096x128, .f32⟩
  | 81 => ⟨S4096x128, .f32⟩
  | 82 => ⟨S_, .f32⟩
  | 83 => ⟨S128, .f32⟩
  | 84 => ⟨S128, .f32⟩
  | 85 => ⟨S128, .f32⟩
  | 86 => ⟨S1x128, .f32⟩
  | 87 => ⟨S4096x128, .f32⟩
  | 88 => ⟨S4096x128, .f32⟩
  | 89 => ⟨S1x128, .f32⟩
  | 90 => ⟨S4096x128, .f32⟩
  | 91 => ⟨S4096x128, .f32⟩
  | 92 => ⟨S1x128, .f32⟩
  | 93 => ⟨S4096x128, .f32⟩
  | 94 => ⟨S4096x128, .f32⟩
  | 95 => ⟨S_, .f32⟩
  | 96 => ⟨S4096x128, .f32⟩
  | 97 => ⟨S4096x128, .f32⟩
  | 98 => ⟨S4096x256, .f32⟩
  | 99 => ⟨S1x256, .f32⟩
  | 100 => ⟨S4096x256, .f32⟩
  | 101 => ⟨S4096x256, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_c_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v0 : Ref sig .tc := ⟨.hbm, 28, rfl⟩
abbrev main_c_1 : Ref sig .tc := ⟨.hbm, 29, rfl⟩
abbrev main_c_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v1 : Ref sig .tc := ⟨.hbm, 36, rfl⟩
abbrev main_c_3 : Ref sig .tc := ⟨.hbm, 37, rfl⟩
abbrev main_c_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v2 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_v14 : Ref sig .tc := ⟨.hbm, 64, rfl⟩
abbrev main_call3_cst : Ref sig .tc := ⟨.hbm, 65, rfl⟩
abbrev main_call3_v15 : Ref sig .tc := ⟨.hbm, 66, rfl⟩
abbrev main_v3 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_v14 : Ref sig .tc := ⟨.hbm, 87, rfl⟩
abbrev main_call4_cst : Ref sig .tc := ⟨.hbm, 88, rfl⟩
abbrev main_call4_v15 : Ref sig .tc := ⟨.hbm, 89, rfl⟩
abbrev main_v4 : Ref sig .tc := ⟨.hbm, 90, rfl⟩
abbrev main_call5_c : Ref sig .tc := ⟨.hbm, 91, rfl⟩
abbrev main_call5_v0 : Ref sig .tc := ⟨.hbm, 92, rfl⟩
abbrev main_call5_v1 : Ref sig .tc := ⟨.hbm, 93, rfl⟩
abbrev main_call5_c_0 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_v5 : Ref sig .tc := ⟨.hbm, 98, rfl⟩
abbrev main_call5_c_1 : Ref sig .tc := ⟨.hbm, 99, rfl⟩
abbrev main_call5_c_2 : Ref sig .tc := ⟨.hbm, 100, rfl⟩
abbrev main_call5_v6 : Ref sig .tc := ⟨.hbm, 101, rfl⟩
abbrev main_call5_v7 : Ref sig .tc := ⟨.hbm, 102, rfl⟩
abbrev main_call5_v8 : Ref sig .tc := ⟨.hbm, 103, rfl⟩
abbrev main_call5_v9 : Ref sig .tc := ⟨.hbm, 104, rfl⟩
abbrev main_call5_v10 : Ref sig .tc := ⟨.hbm, 105, rfl⟩
abbrev main_call5_v11 : Ref sig .tc := ⟨.hbm, 106, rfl⟩
abbrev main_call5_c_3 : Ref sig .tc := ⟨.hbm, 107, rfl⟩
abbrev main_call5_v12 : Ref sig .tc := ⟨.hbm, 108, rfl⟩
abbrev main_call5_v13 : Ref sig .tc := ⟨.hbm, 109, rfl⟩
abbrev main_call5_v14 : Ref sig .tc := ⟨.hbm, 110, rfl⟩
abbrev main_call5_cst : Ref sig .tc := ⟨.hbm, 111, rfl⟩
abbrev main_call5_v15 : Ref sig .tc := ⟨.hbm, 112, rfl⟩
abbrev main_v5 : Ref sig .tc := ⟨.hbm, 113, rfl⟩
abbrev main_v6 : Ref sig .tc := ⟨.hbm, 114, rfl⟩
abbrev main_v7 : Ref sig .tc := ⟨.hbm, 115, rfl⟩
abbrev main_v8 : Ref sig .tc := ⟨.hbm, 116, rfl⟩
abbrev main_v9 : Ref sig .tc := ⟨.hbm, 117, rfl⟩
abbrev main_v10 : Ref sig .tc := ⟨.hbm, 118, rfl⟩
abbrev main_cst : Ref sig .tc := ⟨.hbm, 119, rfl⟩
abbrev main_v11 : Ref sig .tc := ⟨.hbm, 120, rfl⟩
abbrev main_cst_5 : Ref sig .tc := ⟨.hbm, 121, rfl⟩
abbrev main_v12 : Ref sig .tc := ⟨.hbm, 122, rfl⟩
abbrev main_v13 : Ref sig .tc := ⟨.hbm, 123, rfl⟩
abbrev main_v14 : Ref sig .tc := ⟨.hbm, 124, rfl⟩
abbrev main_v15 : Ref sig .tc := ⟨.hbm, 125, rfl⟩
abbrev main_v16 : Ref sig .tc := ⟨.hbm, 126, rfl⟩
abbrev main_v17 : Ref sig .tc := ⟨.hbm, 127, rfl⟩
abbrev main_cst_6 : Ref sig .tc := ⟨.hbm, 128, rfl⟩
abbrev main_v18 : Ref sig .tc := ⟨.hbm, 129, rfl⟩
abbrev main_cst_7 : Ref sig .tc := ⟨.hbm, 130, rfl⟩
abbrev main_v19 : Ref sig .tc := ⟨.hbm, 131, rfl⟩
abbrev main_v20 : Ref sig .tc := ⟨.hbm, 132, rfl⟩
abbrev main_v21 : Ref sig .tc := ⟨.hbm, 133, rfl⟩
abbrev main_v22 : Ref sig .tc := ⟨.hbm, 134, rfl⟩
abbrev main_v23 : Ref sig .tc := ⟨.hbm, 135, rfl⟩
abbrev main_cst_8 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_call6_cst : Ref sig .tc := ⟨.hbm, 149, rfl⟩
abbrev main_call6_v0 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_cst_9 : Ref sig .tc := ⟨.hbm, 156, rfl⟩
abbrev main_v41 : Ref sig .tc := ⟨.hbm, 157, rfl⟩
abbrev main_cst_10 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_v46 : Ref sig .tc := ⟨.hbm, 163, rfl⟩
abbrev main_v47 : Ref sig .tc := ⟨.hbm, 164, rfl⟩
abbrev main_cst_11 : Ref sig .tc := ⟨.hbm, 165, rfl⟩
abbrev main_v48 : Ref sig .tc := ⟨.hbm, 166, rfl⟩
abbrev main_cst_12 : Ref sig .tc := ⟨.hbm, 167, rfl⟩
abbrev main_v49 : Ref sig .tc := ⟨.hbm, 168, rfl⟩
abbrev main_v50 : Ref sig .tc := ⟨.hbm, 169, rfl⟩
abbrev main_v51 : Ref sig .tc := ⟨.hbm, 170, rfl⟩
abbrev main_v52 : Ref sig .tc := ⟨.hbm, 171, rfl⟩
abbrev main_v53 : Ref sig .tc := ⟨.hbm, 172, rfl⟩
abbrev main_cst_13 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_call7_cst : Ref sig .tc := ⟨.hbm, 186, rfl⟩
abbrev main_call7_v0 : Ref sig .tc := ⟨.hbm, 187, rfl⟩
abbrev main_v66 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_cst_14 : Ref sig .tc := ⟨.hbm, 193, rfl⟩
abbrev main_v71 : Ref sig .tc := ⟨.hbm, 194, rfl⟩
abbrev main_cst_15 : Ref sig .tc := ⟨.hbm, 195, rfl⟩
abbrev main_v72 : Ref sig .tc := ⟨.hbm, 196, rfl⟩
abbrev main_v73 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_cst_16 : Ref sig .tc := ⟨.hbm, 202, rfl⟩
abbrev main_v78 : Ref sig .tc := ⟨.hbm, 203, rfl⟩
abbrev main_cst_17 : Ref sig .tc := ⟨.hbm, 204, rfl⟩
abbrev main_v79 : Ref sig .tc := ⟨.hbm, 205, rfl⟩
abbrev main_v80 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_cst_18 : Ref sig .tc := ⟨.hbm, 210, rfl⟩
abbrev main_v84 : Ref sig .tc := ⟨.hbm, 211, rfl⟩
abbrev main_v85 : Ref sig .tc := ⟨.hbm, 212, rfl⟩
abbrev main_v86 : Ref sig .tc := ⟨.hbm, 213, rfl⟩
abbrev main_v87 : Ref sig .tc := ⟨.hbm, 214, rfl⟩
abbrev main_v88 : Ref sig .tc := ⟨.hbm, 215, rfl⟩
abbrev main_v89 : Ref sig .tc := ⟨.hbm, 216, rfl⟩
abbrev main_v90 : Ref sig .tc := ⟨.hbm, 217, rfl⟩
abbrev main_v91 : Ref sig .tc := ⟨.hbm, 218, rfl⟩
abbrev main_v92 : Ref sig .tc := ⟨.hbm, 219, rfl⟩
abbrev main_v93 : Ref sig .tc := ⟨.hbm, 220, rfl⟩
abbrev main_v94 : Ref sig .tc := ⟨.hbm, 221, rfl⟩
abbrev main_v95 : Ref sig .tc := ⟨.hbm, 222, rfl⟩
abbrev main_call8_cst : Ref sig .tc := ⟨.hbm, 223, rfl⟩
abbrev main_call8_v0 : Ref sig .tc := ⟨.hbm, 224, rfl⟩
abbrev main_v96 : Ref sig .tc := ⟨.hbm, 225, rfl⟩
abbrev main_v97 : Ref sig .tc := ⟨.hbm, 226, rfl⟩
abbrev main_v98 : Ref sig .tc := ⟨.hbm, 227, rfl⟩
abbrev main_v99 : Ref sig .tc := ⟨.hbm, 228, rfl⟩
abbrev main_v100 : Ref sig .tc := ⟨.hbm, 229, rfl⟩

abbrev nD : Nat := 1
abbrev τ : Topo := Topo.v7x

variable {F : FTy → Type} [FloatOps F]
-- ==== Proof.Setup.lean ====
/-
  The SparseCore launch of the program, as the library's launch theorem sees it: the call's configuration, the facts
  about its semaphores, the ghost algebra (the handshakes' rounds, the TensorCore pipeline's rounds, the transfers'
  counters), and the vocabulary of the gather: what one gathered row holds.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch -/

/-- The label signature: the kernels' bodies, and the one TensorCore pipeline's labels. -/
abbrev ΛP : Labels := Pipeline.Sig Λ₀ (Fin 1) fun p => (pcfgs (F := F) p).Adm
/-- The SparseCore call. -/
abbrev K : SparseCore.Cfg τ sig (ΛP (F := F)) 1 := sc (F := F)
/-- The body table below the SparseCore's own labels. -/
abbrev D [FloatOps F] : Defs nD τ sig (Elt F) (ΛP (F := F)) := Pipeline.defs pcfgs defs₀
/-- No loop of the kernels needs a variant of its own. -/
abbrev 𝒱₀ : Variants := Variants.none
/-- The variants with the program's loops'. -/
abbrev 𝒱 : Variants := 𝒱₀.lift
/-- The variant of the program's own text. -/
abbrev v₀ : 𝒱.V := Sum.inl none

/-- The launch semaphores are distinct and none of them is a kernel's; no SparseCore buffer is a task's. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost algebra -/

/-- The handshakes' rounds. -/
abbrev UH : Type := URounds (GSem nD τ sig) ℕ
/-- The TensorCore pipeline's rounds. -/
abbrev UP : Type := URounds (GSem nD τ sig) Unit
/-- Both, and the counters of the SparseCore's transfers. -/
abbrev UU : Type := UH × (UP × Counters)

local notation "𝕄" => MT nD τ sig (HIx 1) (Elt F) ℕ UU ℕ

/-- Where the handshakes' rounds sit in the ghost algebra. -/
abbrev EH : Emb UH (MT nD τ sig (HIx 1) (Elt F) ℕ UU ℕ) := embL
/-- Where the pipeline's rounds sit in it. -/
def EP : Emb UP (MT nD τ sig (HIx 1) (Elt F) ℕ UU ℕ) :=
  (Emb.inl : Emb UP (UP × Counters)).trans (embR (nD := nD) (τ := τ) (sig := sig) (Ix := HIx 1) (Val := Elt F) (Name := ℕ) (Lvl := ℕ))

/-- The pipeline's rounds sit in the user's part of the ghost algebra. -/
instance EP_landsIn : (EP : Emb UP 𝕄).LandsIn (upEmb : UEmb _ 𝕄) := by unfold EP; infer_instance

/-! ## The arrays of the call -/

/-- The place of the users' indices. -/
abbrev a1Loc (d : Dev nD) : Loc nD τ sig := (SparseCore.T d).loc main_arg1
/-- The place of the items' indices. -/
abbrev a2Loc (d : Dev nD) : Loc nD τ sig := (SparseCore.T d).loc main_arg2
/-- The place of the categories' indices. -/
abbrev a3Loc (d : Dev nD) : Loc nD τ sig := (SparseCore.T d).loc main_arg3
/-- The place of the users' table, laid out. -/
abbrev tuLoc (d : Dev nD) : Loc nD τ sig := (SparseCore.T d).loc main_v1
/-- The place of the items' table, laid out. -/
abbrev tiLoc (d : Dev nD) : Loc nD τ sig := (SparseCore.T d).loc main_v3
/-- The place of the categories' table, laid out. -/
abbrev tcLoc (d : Dev nD) : Loc nD τ sig := (SparseCore.T d).loc main_v5
/-- The place of the users' gathered rows. -/
abbrev ouLoc (d : Dev nD) : Loc nD τ sig := (SparseCore.T d).loc main_v6_0
/-- The place of the items' gathered rows. -/
abbrev oiLoc (d : Dev nD) : Loc nD τ sig := (SparseCore.T d).loc main_v6_1
/-- The place of the categories' gathered rows. -/
abbrev ocLoc (d : Dev nD) : Loc nD τ sig := (SparseCore.T d).loc main_v6_2

/-! ## What a gathered array holds -/

/-- The place of word `b` in row `r` of a table of `n` words a row, its rows in groups of eight. -/
def tabIx {g n : Nat} (hg : 0 < g) (hn : 0 < n) (r : Nat) (b : BitVec 32) : (⟨3, ![g, 8, n]⟩ : Shape).Idx :=
  fun | ⟨0, _⟩ => ⟨r / 8 % g, Nat.mod_lt _ hg⟩
      | ⟨1, _⟩ => ⟨r % 8, Nat.mod_lt _ (by decide)⟩
      | ⟨2, _⟩ => ⟨b.toNat % n, Nat.mod_lt _ hn⟩

/-- Lane `j` of the index lists. -/
def lane (j : Fin 4096) : S4096.Idx := fun | ⟨0, _⟩ => j

/-- The rows gathered from the large table `t` at the indices `a`: entry `(r, j)` is word `a j` of row `r`. -/
def gatherBig (t : Vec F S4x8x100000 .f32) (a : Vec F S4096 .i32) : Vec F S32x4096 .f32 :=
  fun y => t (tabIx (g := 4) (n := 100000) (by decide) (by decide) (y 0).val (a (lane (y 1))))

/-- The rows gathered from the small table `t` at the indices `a`. -/
def gatherSmall (t : Vec F S2x8x1000 .f32) (a : Vec F S4096 .i32) : Vec F S16x4096 .f32 :=
  fun y => t (tabIx (g := 2) (n := 1000) (by decide) (by decide) (y 0).val (a (lane (y 1))))

end Cert.Proof

end
-- ==== Proof.Trips.lean ====
/-
  What one task of the SparseCore call is made of: its buffers and its semaphores, one trip of each of its three gathering
  loops, and the rows of the tables and of the results that its copies name.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- All of the users' indices, as a task sees it. -/
abbrev a1W : Memref sig .scVector .hbm S4096 .i32 := Memref.whole main_arg1_scv
/-- All of the items' indices, as a task sees it. -/
abbrev a2W : Memref sig .scVector .hbm S4096 .i32 := Memref.whole main_arg2_scv
/-- All of the categories' indices, as a task sees it. -/
abbrev a3W : Memref sig .scVector .hbm S4096 .i32 := Memref.whole main_arg3_scv
/-- All of the users' table, laid out, as a task sees it. -/
abbrev tuW : Memref sig .scVector .hbm S4x8x100000 .f32 := Memref.whole main_v1_scv
/-- All of the items' table, laid out, as a task sees it. -/
abbrev tiW : Memref sig .scVector .hbm S4x8x100000 .f32 := Memref.whole main_v3_scv
/-- All of the categories' table, laid out, as a task sees it. -/
abbrev tcW : Memref sig .scVector .hbm S2x8x1000 .f32 := Memref.whole main_v5_scv
/-- All of the users' gathered rows, as a task sees it. -/
abbrev ouW : Memref sig .scVector .hbm S32x4096 .f32 := Memref.whole main_v6_0_scv
/-- All of the items' gathered rows, as a task sees it. -/
abbrev oiW : Memref sig .scVector .hbm S32x4096 .f32 := Memref.whole main_v6_1_scv
/-- All of the categories' gathered rows, as a task sees it. -/
abbrev ocW : Memref sig .scVector .hbm S16x4096 .f32 := Memref.whole main_v6_2_scv
/-- The task's own buffer of the staged users' indices. -/
abbrev s0W : Memref sig .scVector .vmem S4096 .i32 := Memref.whole cc0_scratch0
/-- The task's own buffer of the staged items' indices. -/
abbrev s1W : Memref sig .scVector .vmem S4096 .i32 := Memref.whole cc0_scratch1
/-- The task's own buffer of the staged categories' indices. -/
abbrev s2W : Memref sig .scVector .vmem S4096 .i32 := Memref.whole cc0_scratch2
/-- The task's own buffer of the gathered row. -/
abbrev s3W : Memref sig .scVector .vmem S4096 .f32 := Memref.whole cc0_scratch3
/-- The task's own buffer of the staged row of a large table. -/
abbrev s4W : Memref sig .scVector .vmem S100000 .f32 := Memref.whole cc0_scratch4
/-- The task's own buffer of the staged row of the small table. -/
abbrev s5W : Memref sig .scVector .vmem S1000 .f32 := Memref.whole cc0_scratch5

/-- The task's SparseCore. -/
abbrev cV (L : grid0.Coords) : Fin τ.nSC := (L 0).castLE hcore0
/-- The task's subcore. -/
abbrev jV (L : grid0.Coords) : Fin τ.nSub := (L 1).castLE hsub0
/-- The task's thread. -/
abbrev VT (d : Dev nD) (L : grid0.Coords) : Thread nD τ := V d (cV L) (jV L)

/-- The row of the results that the task writes, as the task slices it. -/
abbrev ouRow (L : grid0.Coords) : Memref sig .scVector .hbm S4096 .f32 :=
  (ouW.slice (Rect.unit (s := S32x4096) (k0_off5 L) S1x4096.size (k0_off5_inb L)) (fun _ => rfl)).squeeze S4096 squeezes_S1x4096_S4096
/-- The same of the items' result. -/
abbrev oiRow (L : grid0.Coords) : Memref sig .scVector .hbm S4096 .f32 :=
  (oiW.slice (Rect.unit (s := S32x4096) (k0_off5 L) S1x4096.size (k0_off5_inb L)) (fun _ => rfl)).squeeze S4096 squeezes_S1x4096_S4096
/-- The same of the categories' result, for the tasks that write it. -/
abbrev ocRow (L : grid0.Coords) (h : k0_cond2 L = 1#1) : Memref sig .scVector .hbm S4096 .f32 :=
  (ocW.slice (Rect.unit (s := S16x4096) (k0_off8 L) S1x4096.size (k0_off8_inb L h)) (fun _ => rfl)).squeeze S4096 squeezes_S1x4096_S4096

variable (d : Dev nD) (L : grid0.Coords)

/-- The task's eight transfer semaphores at zero. -/
def cells0 : sProp 𝕄 :=
  iprop(semVal (VT d L, SemLoc.dma cc0_scratch6.sem) 0 ∗ semVal (VT d L, SemLoc.dma cc0_scratch7.sem) 0
    ∗ semVal (VT d L, SemLoc.dma cc0_scratch8.sem) 0 ∗ semVal (VT d L, SemLoc.dma cc0_scratch9.sem) 0
    ∗ semVal (VT d L, SemLoc.dma cc0_scratch10.sem) 0 ∗ semVal (VT d L, SemLoc.dma cc0_scoped0.sem) 0
    ∗ semVal (VT d L, SemLoc.dma cc0_scoped1.sem) 0 ∗ semVal (VT d L, SemLoc.dma cc0_scoped2.sem) 0)

/-! ## One trip of a gather loop -/

/-- The place of word `b` in a row of `n` words. -/
def rowIx {n : Nat} (hn : 0 < n) (b : BitVec 32) : (⟨1, ![n]⟩ : Shape).Idx := fun | ⟨0, _⟩ => ⟨b.toNat % n, Nat.mod_lt _ hn⟩

/-- The invariant of a gather loop over the index list `a` in `im` and the row `r` in `rm`: the first `16 * k` lanes of
    the result hold the row's words at their indices. -/
def inv {n : Nat} (hn : 0 < n) (im : Memref sig .scVector .vmem S4096 .i32) (rm : Memref sig .scVector .vmem ⟨1, ![n]⟩ .f32)
    (a : Buf (Elt F) (im.view.loc (VT d L))) (r : Buf (Elt F) (rm.view.loc (VT d L)))
    (val : S4096.Idx → F .f32) (k : Nat) (_ : PUnit) : sProp 𝕄 :=
  iprop((im.view.loc (VT d L) ↦{fullShare} a) ∗ (rm.view.loc (VT d L) ↦{fullShare} r)
    ∗ ∃ g : Vec F S4096 .f32, ⌜∀ j : S4096.Idx, (j 0).val < 16 * k → g j = val j⌝ ∗ (s3W.view.loc (VT d L) ↦{fullShare} g))

/-- The sixteen lanes stored at lane `16 * k` extend what the result holds. -/
theorem stored (g : Vec F S4096 .f32) (off : Fin 1 → Nat) (inb : ∀ a, off a + S16.size a ≤ S4096.size a) (w : Vec F S16 .f32)
    (k : Nat) (hoff : off = ![16 * k]) (val : S4096.Idx → F .f32) (hg : ∀ j : S4096.Idx, (j 0).val < 16 * k → g j = val j)
    (hw : ∀ (x : S16.Idx) (j : S4096.Idx), (j 0).val = 16 * k + (x 0).val → w x = val j) (j : S4096.Idx) (hj : (j 0).val < 16 * (k + 1)) :
    View.write (Elt F) (s3W.access (Rect.unit (s := S4096) off S16.size inb)) g w Finset.univ j = val j := by
  subst hoff
  have e : View.write (Elt F) (s3W.access (Rect.unit (s := S4096) ![16 * k] S16.size inb)) g w Finset.univ j
      = s3W.view.read (Elt F) (s3W.view.writes (Elt F) g [⟨Rect.unit (s := S4096) ![16 * k] S16.size inb, w⟩]) j := rfl
  rw [e]
  rcases Nat.lt_or_ge (j 0).val (16 * k) with h | h
  · rw [View.read_writes_cons_miss_of_axis s3W.view g _ [] j 0 (16 * k) 16 rfl rfl rfl (.inl h)]
    exact hg j h
  · have hx : ∀ b, (j b).val = (Rect.unit (s := S4096) ![16 * k] S16.size inb).off b
        + (Rect.unit (s := S4096) ![16 * k] S16.size inb).stride b
          * ((fun | ⟨0, _⟩ => ⟨(j 0).val - 16 * k, show _ < 16 by omega⟩ : S16.Idx) b).val := fun b => match b with
      | ⟨0, _⟩ => by show (j 0).val = 16 * k + 1 * ((j 0).val - 16 * k); omega
    refine (View.read_writes_cons_hit_of_coords s3W.view g (Rect.unit (s := S4096) ![16 * k] S16.size inb) w [] _ j hx).trans ?_
    exact hw _ j (by show (j 0).val = 16 * k + ((j 0).val - 16 * k); omega)

/-- The lanes that an indexed load of the row `r` at the sixteen indices loaded from lane `16 * k` gives. -/
theorem loaded {n : Nat} (hn : 0 < n) (a : Vec F S4096 .i32) (r r' : Vec F ⟨1, ![n]⟩ .f32) (hr : r' = r) (ha : ∀ j, (a j).toNat < n)
    (off : Fin 1 → Nat) (inb : ∀ a, off a + S16.size a ≤ S4096.size a) (k : Nat) (hoff : off = ![16 * k])
    (v : Vec F S16 .i32) (hv : ∀ x, v x = a ((Rect.unit (s := S4096) off S16.size inb).emb x))
    (h : ∀ (b : Fin 1) x, ((![v] : Fin 1 → IVec S16 32) b x).toNat < ![n] b)
    (x : S16.Idx) (j : S4096.Idx) (hj : (j 0).val = 16 * k + (x 0).val) :
    loadIdx (s := ⟨1, ![n]⟩) (e := .f32) r' ![v] h x = r (rowIx hn (a j)) := by
  subst hoff
  have hx : (Rect.unit (s := S4096) ![16 * k] S16.size inb).emb x = j :=
    Rect.emb_eq_of_coords (Rect.unit (s := S4096) ![16 * k] S16.size inb) x j fun b => match b with
      | ⟨0, _⟩ => by show (j 0).val = 16 * k + 1 * (x 0).val; omega
  subst hr
  show r' _ = r' _
  congr 1
  funext b
  match b with
  | ⟨0, _⟩ =>
    apply Fin.ext
    show (v x).toNat = (a j).toNat % n
    rw [hv, hx, Nat.mod_eq_of_lt (ha j)]

/-- The first loop runs 256 times, -/
theorem trips1 : k0_t1_loop.trips = 256 := by decide +kernel
/-- the second too, -/
theorem trips2 : k0_t2_loop.trips = 256 := by decide +kernel
/-- and the third. -/
theorem trips3 : k0_t3_loop.trips = 256 := by decide +kernel

/-- One trip of the first loop. -/
theorem trip1 (a : Vec F S4096 .i32) (r : Vec F S100000 .f32) (ha : ∀ j, (a j).toNat < 100000) (k : Fin k0_t1_loop.trips) :
    inv (F := F) d L (n := 100000) (by decide) s0W s4W a r (fun j => r (rowIx (n := 100000) (by decide) (a j))) k.val ⟨⟩
      ⊢ wp frame (wpE (defs₀ (F := F)) 𝒱₀ (VT d L) none) Set.univ
          (k0_t1_body L a1W (Memref.isWhole_whole _) a2W (Memref.isWhole_whole _) a3W (Memref.isWhole_whole _)
            tuW (Memref.isWhole_whole _) tiW (Memref.isWhole_whole _) tcW (Memref.isWhole_whole _)
            ouW (Memref.isWhole_whole _) oiW (Memref.isWhole_whole _) ocW (Memref.isWhole_whole _)
            s0W (Memref.isWhole_whole _) s1W (Memref.isWhole_whole _) s2W (Memref.isWhole_whole _)
            s3W (Memref.isWhole_whole _) s4W (Memref.isWhole_whole _) s5W (Memref.isWhole_whole _)
            cc0_scratch6 cc0_scratch7 cc0_scratch8 cc0_scratch9 cc0_scratch10 cc0_scoped0 cc0_scoped1 cc0_scoped2 k ⟨⟩)
          fun _ => inv (F := F) d L (n := 100000) (by decide) s0W s4W a r (fun j => r (rowIx (n := 100000) (by decide) (a j))) (k.val + 1) ⟨⟩ := by
  unfold inv k0_t1_body
  iintro ⟨Ha, Hr, %g, %hg, Hg⟩
  simp only [Prog.lift, Prog.bind_op, Prog.bind_ret, Prog.pure_eq_ret]
  iapply (wp_load 𝒱₀ (VT d L) none Set.univ (m := s0W) (S := Finset.univ) (Finset.subset_univ _)) $$ Ha; iintro Ha
  rw [wp_assume_of _ _ _ _ (by intro b x; match b with | ⟨0, _⟩ => exact ha _)]
  iapply (SparseCore.wp_vectorLoadIdx 𝒱₀ (VT d L) none Set.univ (base := s4W) (S := Finset.univ) (q := fullShare) (Finset.subset_univ _)) $$ Hr; iintro Hr
  iapply (wp_load 𝒱₀ (VT d L) none Set.univ (m := s3W) (S := Finset.univ) (Finset.subset_univ _)) $$ Hg; iintro Hg
  ihave Hg := (Entails.of_eq (show (s3W.view.loc (VT d L) ↦{fullShare} g : sProp 𝕄)
    = ((s3W.access (Rect.unit (s := S4096) (k0_off4 k) S16.size (k0_off4_inb k))).loc (VT d L) ↦{fullShare} g) from rfl)) $$ Hg
  iapply (wp_store 𝒱₀ (VT d L) none Set.univ (m := s3W) (r := Rect.unit (s := S4096) (k0_off4 k) S16.size (k0_off4_inb k)) (Mk := Finset.univ) (S := Finset.univ) (Finset.subset_univ _)) $$ Hg; iintro Hg
  rw [wp_ret]; imodintro
  isplitl [Ha]; · iexact Ha
  isplitl [Hr]; · iexact Hr
  iexists _
  isplitr
  rotate_left
  · iexact Hg
  · ipureintro
    exact stored g _ _ _ _ (k0_off4_eq k) _ hg
      (loaded _ a r _ (Memref.read_access_whole (Elt F) cc0_scratch4 r) ha _ (k0_off3_inb k) _ (k0_off3_eq k)
        (View.readAt (Elt F) s0W.view (Rect.unit (s := S4096) (k0_off3 k) S16.size (k0_off3_inb k)).toLoadRect a) (fun _ => rfl) _)

/-- One trip of the second loop. -/
theorem trip2 (a : Vec F S4096 .i32) (r : Vec F S1000 .f32) (ha : ∀ j, (a j).toNat < 1000) (hk : k0_cond2 L = 1#1) (k : Fin k0_t2_loop.trips) :
    inv (F := F) d L (n := 1000) (by decide) s2W s5W a r (fun j => r (rowIx (n := 1000) (by decide) (a j))) k.val ⟨⟩
      ⊢ wp frame (wpE (defs₀ (F := F)) 𝒱₀ (VT d L) none) Set.univ
          (k0_t2_body L a1W (Memref.isWhole_whole _) a2W (Memref.isWhole_whole _) a3W (Memref.isWhole_whole _)
            tuW (Memref.isWhole_whole _) tiW (Memref.isWhole_whole _) tcW (Memref.isWhole_whole _)
            ouW (Memref.isWhole_whole _) oiW (Memref.isWhole_whole _) ocW (Memref.isWhole_whole _)
            s0W (Memref.isWhole_whole _) s1W (Memref.isWhole_whole _) s2W (Memref.isWhole_whole _)
            s3W (Memref.isWhole_whole _) s4W (Memref.isWhole_whole _) s5W (Memref.isWhole_whole _)
            cc0_scratch6 cc0_scratch7 cc0_scratch8 cc0_scratch9 cc0_scratch10 cc0_scoped0 cc0_scoped1 cc0_scoped2 hk k ⟨⟩)
          fun _ => inv (F := F) d L (n := 1000) (by decide) s2W s5W a r (fun j => r (rowIx (n := 1000) (by decide) (a j))) (k.val + 1) ⟨⟩ := by
  unfold inv k0_t2_body
  iintro ⟨Ha, Hr, %g, %hg, Hg⟩
  simp only [Prog.lift, Prog.bind_op, Prog.bind_ret, Prog.pure_eq_ret]
  iapply (wp_load 𝒱₀ (VT d L) none Set.univ (m := s2W) (S := Finset.univ) (Finset.subset_univ _)) $$ Ha; iintro Ha
  rw [wp_assume_of _ _ _ _ (by intro _ b x; match b with | ⟨0, _⟩ => exact ha _)]
  iapply (SparseCore.wp_vectorLoadIdx 𝒱₀ (VT d L) none Set.univ (base := s5W) (S := Finset.univ) (q := fullShare) (Finset.subset_univ _)) $$ Hr; iintro Hr
  iapply (wp_load 𝒱₀ (VT d L) none Set.univ (m := s3W) (S := Finset.univ) (Finset.subset_univ _)) $$ Hg; iintro Hg
  ihave Hg := (Entails.of_eq (show (s3W.view.loc (VT d L) ↦{fullShare} g : sProp 𝕄)
    = ((s3W.access (Rect.unit (s := S4096) (k0_off7 k) S16.size (k0_off7_inb L k hk))).loc (VT d L) ↦{fullShare} g) from rfl)) $$ Hg
  iapply (wp_store 𝒱₀ (VT d L) none Set.univ (m := s3W) (r := Rect.unit (s := S4096) (k0_off7 k) S16.size (k0_off7_inb L k hk)) (Mk := Finset.univ) (S := Finset.univ) (Finset.subset_univ _)) $$ Hg; iintro Hg
  rw [wp_ret]; imodintro
  isplitl [Ha]; · iexact Ha
  isplitl [Hr]; · iexact Hr
  iexists _
  isplitr
  rotate_left
  · iexact Hg
  · ipureintro
    exact stored g _ _ _ _ (k0_off7_eq k) _ hg
      (loaded _ a r _ (Memref.read_access_whole (Elt F) cc0_scratch5 r) ha _ (k0_off6_inb L k hk) _ (k0_off6_eq k)
        (View.readAt (Elt F) s2W.view (Rect.unit (s := S4096) (k0_off6 k) S16.size (k0_off6_inb L k hk)).toLoadRect a) (fun _ => rfl) _)

/-- One trip of the third loop. -/
theorem trip3 (a : Vec F S4096 .i32) (r : Vec F S100000 .f32) (ha : ∀ j, (a j).toNat < 100000) (k : Fin k0_t3_loop.trips) :
    inv (F := F) d L (n := 100000) (by decide) s1W s4W a r (fun j => r (rowIx (n := 100000) (by decide) (a j))) k.val ⟨⟩
      ⊢ wp frame (wpE (defs₀ (F := F)) 𝒱₀ (VT d L) none) Set.univ
          (k0_t3_body L a1W (Memref.isWhole_whole _) a2W (Memref.isWhole_whole _) a3W (Memref.isWhole_whole _)
            tuW (Memref.isWhole_whole _) tiW (Memref.isWhole_whole _) tcW (Memref.isWhole_whole _)
            ouW (Memref.isWhole_whole _) oiW (Memref.isWhole_whole _) ocW (Memref.isWhole_whole _)
            s0W (Memref.isWhole_whole _) s1W (Memref.isWhole_whole _) s2W (Memref.isWhole_whole _)
            s3W (Memref.isWhole_whole _) s4W (Memref.isWhole_whole _) s5W (Memref.isWhole_whole _)
            cc0_scratch6 cc0_scratch7 cc0_scratch8 cc0_scratch9 cc0_scratch10 cc0_scoped0 cc0_scoped1 cc0_scoped2 k ⟨⟩)
          fun _ => inv (F := F) d L (n := 100000) (by decide) s1W s4W a r (fun j => r (rowIx (n := 100000) (by decide) (a j))) (k.val + 1) ⟨⟩ := by
  unfold inv k0_t3_body
  iintro ⟨Ha, Hr, %g, %hg, Hg⟩
  simp only [Prog.lift, Prog.bind_op, Prog.bind_ret, Prog.pure_eq_ret]
  iapply (wp_load 𝒱₀ (VT d L) none Set.univ (m := s1W) (S := Finset.univ) (Finset.subset_univ _)) $$ Ha; iintro Ha
  rw [wp_assume_of _ _ _ _ (by intro b x; match b with | ⟨0, _⟩ => exact ha _)]
  iapply (SparseCore.wp_vectorLoadIdx 𝒱₀ (VT d L) none Set.univ (base := s4W) (S := Finset.univ) (q := fullShare) (Finset.subset_univ _)) $$ Hr; iintro Hr
  iapply (wp_load 𝒱₀ (VT d L) none Set.univ (m := s3W) (S := Finset.univ) (Finset.subset_univ _)) $$ Hg; iintro Hg
  ihave Hg := (Entails.of_eq (show (s3W.view.loc (VT d L) ↦{fullShare} g : sProp 𝕄)
    = ((s3W.access (Rect.unit (s := S4096) (k0_off10 k) S16.size (k0_off10_inb k))).loc (VT d L) ↦{fullShare} g) from rfl)) $$ Hg
  iapply (wp_store 𝒱₀ (VT d L) none Set.univ (m := s3W) (r := Rect.unit (s := S4096) (k0_off10 k) S16.size (k0_off10_inb k)) (Mk := Finset.univ) (S := Finset.univ) (Finset.subset_univ _)) $$ Hg; iintro Hg
  rw [wp_ret]; imodintro
  isplitl [Ha]; · iexact Ha
  isplitl [Hr]; · iexact Hr
  iexists _
  isplitr
  rotate_left
  · iexact Hg
  · ipureintro
    exact stored g _ _ _ _ (k0_off10_eq k) _ hg
      (loaded _ a r _ (Memref.read_access_whole (Elt F) cc0_scratch4 r) ha _ (k0_off9_inb k) _ (k0_off9_eq k)
        (View.readAt (Elt F) s1W.view (Rect.unit (s := S4096) (k0_off9 k) S16.size (k0_off9_inb k)).toLoadRect a) (fun _ => rfl) _)

/-! ## The rows that the copies name -/

/-- The number of the row that the task gathers. -/
def wid (L : grid0.Coords) : Nat := 2 * (L 1).val + (L 0).val

/-- There are 32 rows. -/
theorem wid_lt (L : grid0.Coords) : wid L < 32 := by
  have h0 : (L 0).val < 2 := (L 0).isLt
  have h1 : (L 1).val < 16 := (L 1).isLt
  unfold wid; omega

/-- Where the task's row of a large table starts: row `wid L` is at block `wid L / 8`, place `wid L % 8`. -/
theorem off1_eq : ∀ L : grid0.Coords, k0_off1 L = ![wid L / 8, wid L % 8, 0] := by unfold wid; decide +kernel
/-- Where its row of the small table starts. -/
theorem off2_eq : ∀ L : grid0.Coords, k0_off2 L = ![wid L / 8, wid L % 8, 0] := by unfold wid; decide +kernel
/-- The small table's row is fetched by the tasks whose number is below 16, -/
theorem cond1_iff : ∀ L : grid0.Coords, k0_cond1 L = 1#1 ↔ wid L < 16 := by unfold wid; decide +kernel
/-- and gathered by the same tasks. -/
theorem cond2_iff : ∀ L : grid0.Coords, k0_cond2 L = 1#1 ↔ wid L < 16 := by unfold wid; decide +kernel

/-- The task's row of each table, as the task slices it. -/
abbrev tuRow (L : grid0.Coords) : Memref sig .scVector .hbm S100000 .f32 :=
  (tuW.slice (Rect.unit (s := S4x8x100000) (k0_off1 L) S1x1x100000.size (k0_off1_inb L)) (fun _ => rfl)).squeeze S100000 squeezes_S1x1x100000_S100000
/-- The same of the items' table. -/
abbrev tiRow (L : grid0.Coords) : Memref sig .scVector .hbm S100000 .f32 :=
  (tiW.slice (Rect.unit (s := S4x8x100000) (k0_off1 L) S1x1x100000.size (k0_off1_inb L)) (fun _ => rfl)).squeeze S100000 squeezes_S1x1x100000_S100000
/-- The same of the categories' table, for the tasks that read it. -/
abbrev tcRow (L : grid0.Coords) (h : k0_cond1 L = 1#1) : Memref sig .scVector .hbm S1000 .f32 :=
  (tcW.slice (Rect.unit (s := S2x8x1000) (k0_off2 L) S1x1x1000.size (k0_off2_inb L h)) (fun _ => rfl)).squeeze S1000 squeezes_S1x1x1000_S1000

/-- A word of a row of a table, found in the table. -/
theorem row_emb {g n : Nat} (hg : 0 < g) (hn : 0 < n) (off : Fin 3 → Nat) (w : Nat) (hw : w / 8 < g) (hoff : off = ![w / 8, w % 8, 0])
    (inb : ∀ a, off a + (⟨3, ![1, 1, n]⟩ : Shape).size a ≤ (⟨3, ![g, 8, n]⟩ : Shape).size a)
    (h : (⟨1, ![n]⟩ : Shape).numel = (⟨3, ![1, 1, n]⟩ : Shape).numel) (b : BitVec 32) :
    (Rect.unit (s := ⟨3, ![g, 8, n]⟩) off (⟨3, ![1, 1, n]⟩ : Shape).size inb).emb (Shape.reshapeEquiv h (rowIx hn b)) = tabIx hg hn w b := by
  subst hoff
  have e : Shape.reshapeEquiv h (rowIx hn b)
      = (fun | ⟨0, _⟩ => ⟨0, Nat.one_pos⟩ | ⟨1, _⟩ => ⟨0, Nat.one_pos⟩ | ⟨2, _⟩ => ⟨b.toNat % n, Nat.mod_lt _ hn⟩ : (⟨3, ![1, 1, n]⟩ : Shape).Idx) :=
    Shape.reshapeEquiv_eq_of_rowMajor h (by
      rw [Shape.rowMajor_val_three, Shape.rowMajor_val_one]
      show (0 * 1 + 0) * n + b.toNat % n = b.toNat % n
      omega)
  rw [e]
  refine Rect.emb_eq_of_coords (Rect.unit (s := ⟨3, ![g, 8, n]⟩) ![w / 8, w % 8, 0] (⟨3, ![1, 1, n]⟩ : Shape).size inb) _ _ fun a => ?_
  match a with
  | ⟨0, _⟩ => show w / 8 % g = w / 8 + 1 * 0; rw [Nat.mod_eq_of_lt hw]; omega
  | ⟨1, _⟩ => show w % 8 = w % 8 + 1 * 0; omega
  | ⟨2, _⟩ => show b.toNat % n = 0 + 1 * (b.toNat % n); omega

/-- A word of the task's row of the users' table. -/
theorem tuRow_read (t : Vec F S4x8x100000 .f32) (b : BitVec 32) :
    (tuRow L).view.read (Elt F) t (rowIx (n := 100000) (by decide) b) = t (tabIx (g := 4) (n := 100000) (by decide) (by decide) (wid L) b) :=
  congrArg t (row_emb _ _ _ (wid L) (by have := wid_lt L; omega) (off1_eq L) (k0_off1_inb L) _ b)

/-- A word of its row of the items' table. -/
theorem tiRow_read (t : Vec F S4x8x100000 .f32) (b : BitVec 32) :
    (tiRow L).view.read (Elt F) t (rowIx (n := 100000) (by decide) b) = t (tabIx (g := 4) (n := 100000) (by decide) (by decide) (wid L) b) :=
  congrArg t (row_emb _ _ _ (wid L) (by have := wid_lt L; omega) (off1_eq L) (k0_off1_inb L) _ b)

/-- A word of its row of the categories' table. -/
theorem tcRow_read (h : k0_cond1 L = 1#1) (t : Vec F S2x8x1000 .f32) (b : BitVec 32) :
    (tcRow L h).view.read (Elt F) t (rowIx (n := 1000) (by decide) b) = t (tabIx (g := 2) (n := 1000) (by decide) (by decide) (wid L) b) :=
  congrArg t (row_emb _ _ _ (wid L) (by have := (cond1_iff L).mp h; omega) (off2_eq L) (k0_off2_inb L h) _ b)

/-- A lane of a row of a result, found in the result. -/
theorem out_emb {g : Nat} (off : Fin 2 → Nat) (w : Nat) (hoff : off = ![w, 0])
    (inb : ∀ a, off a + S1x4096.size a ≤ (⟨2, ![g, 4096]⟩ : Shape).size a) (h : S4096.numel = S1x4096.numel) (x : S4096.Idx) :
    ((Rect.unit (s := ⟨2, ![g, 4096]⟩) off S1x4096.size inb).emb (Shape.reshapeEquiv h x) 0).val = w
      ∧ lane ((Rect.unit (s := ⟨2, ![g, 4096]⟩) off S1x4096.size inb).emb (Shape.reshapeEquiv h x) 1) = x := by
  subst hoff
  have e : Shape.reshapeEquiv h x = (fun | ⟨0, _⟩ => ⟨0, Nat.one_pos⟩ | ⟨1, _⟩ => x 0 : S1x4096.Idx) :=
    Shape.reshapeEquiv_eq_of_rowMajor h (by
      rw [Shape.rowMajor_val_two, Shape.rowMajor_val_one]
      show 0 * 4096 + (x 0).val = (x 0).val
      omega)
  rw [e]
  refine ⟨show w + 1 * 0 = w by omega, ?_⟩
  funext a
  match a with
  | ⟨0, _⟩ => exact Fin.ext (show 0 + 1 * (x 0).val = (x 0).val by omega)

/-- Where the task's row of a large result starts. -/
theorem wid_off5 : k0_off5 L = ![wid L, 0] := k0_off5_eq L
/-- Where its row of the small result starts. -/
theorem wid_off8 : k0_off8 L = ![wid L, 0] := k0_off8_eq L

variable {d L} in
/-- A row of 4096 lanes written whole holds any contents that read the same through it. -/
theorem pts_row_write (m : Memref sig .scVector .hbm S4096 .f32) (f : Buf (Elt F) (m.view.loc (VT d L))) (g : Vec F S4096 .f32)
    (h : Buf (Elt F) (m.view.loc (VT d L))) (hh : ∀ x, m.view.read (Elt F) h x = g x) :
    (m.view.loc (VT d L) ↦[m.view.set]{fullShare} m.view.writes (Elt F) f [⟨Rect.whole S4096, g⟩] : sProp 𝕄)
      = (m.view.loc (VT d L) ↦[m.view.set]{fullShare} h) :=
  pointsTo_congr fun i hi => by
    obtain ⟨x, -, rfl⟩ := Finset.mem_map.mp hi
    have e := (View.read_writes_cons_hit m.view f (Rect.whole S4096) g [] x x (Rect.emb_whole_apply S4096 x)).trans (hh x).symm
    rw [View.read_apply, View.read_apply] at e
    exact cast_inj _ |>.mp e

/-- The row written out holds the row gathered. -/
theorem ouRow_write (t : Vec F S4x8x100000 .f32) (a : Vec F S4096 .i32) (f : Vec F S32x4096 .f32) (g : Vec F S4096 .f32)
    (hg : ∀ x, g x = t (tabIx (g := 4) (n := 100000) (by decide) (by decide) (wid L) (a x))) :
    ((ouRow L).view.loc (VT d L) ↦[(ouRow L).view.set]{fullShare} (ouRow L).view.writes (Elt F) f [⟨Rect.whole S4096, g⟩] : sProp 𝕄)
      = ((ouRow L).view.loc (VT d L) ↦[(ouRow L).view.set]{fullShare} gatherBig t a) :=
  pts_row_write (ouRow L) f g (gatherBig t a) fun x => by
    have h := out_emb (g := 32) (k0_off5 L) (wid L) (wid_off5 L) (k0_off5_inb L) (by decide) x
    refine Eq.trans (congrArg t ?_) (hg x).symm
    exact congrArg₂ (tabIx (g := 4) (n := 100000) (by decide) (by decide)) h.1 (congrArg a h.2)

/-- The second result's row written out holds the row gathered. -/
theorem oiRow_write (t : Vec F S4x8x100000 .f32) (a : Vec F S4096 .i32) (f : Vec F S32x4096 .f32) (g : Vec F S4096 .f32)
    (hg : ∀ x, g x = t (tabIx (g := 4) (n := 100000) (by decide) (by decide) (wid L) (a x))) :
    ((oiRow L).view.loc (VT d L) ↦[(oiRow L).view.set]{fullShare} (oiRow L).view.writes (Elt F) f [⟨Rect.whole S4096, g⟩] : sProp 𝕄)
      = ((oiRow L).view.loc (VT d L) ↦[(oiRow L).view.set]{fullShare} gatherBig t a) :=
  pts_row_write (oiRow L) f g (gatherBig t a) fun x => by
    have h := out_emb (g := 32) (k0_off5 L) (wid L) (wid_off5 L) (k0_off5_inb L) (by decide) x
    refine Eq.trans (congrArg t ?_) (hg x).symm
    exact congrArg₂ (tabIx (g := 4) (n := 100000) (by decide) (by decide)) h.1 (congrArg a h.2)

/-- The third result's row written out holds the row gathered. -/
theorem ocRow_write (h2 : k0_cond2 L = 1#1) (t : Vec F S2x8x1000 .f32) (a : Vec F S4096 .i32) (f : Vec F S16x4096 .f32) (g : Vec F S4096 .f32)
    (hg : ∀ x, g x = t (tabIx (g := 2) (n := 1000) (by decide) (by decide) (wid L) (a x))) :
    ((ocRow L h2).view.loc (VT d L) ↦[(ocRow L h2).view.set]{fullShare} (ocRow L h2).view.writes (Elt F) f [⟨Rect.whole S4096, g⟩] : sProp 𝕄)
      = ((ocRow L h2).view.loc (VT d L) ↦[(ocRow L h2).view.set]{fullShare} gatherSmall t a) :=
  pts_row_write (ocRow L h2) f g (gatherSmall t a) fun x => by
    have h := out_emb (g := 16) (k0_off8 L) (wid L) (wid_off8 L) (k0_off8_inb L h2) (by decide) x
    refine Eq.trans (congrArg t ?_) (hg x).symm
    exact congrArg₂ (tabIx (g := 2) (n := 1000) (by decide) (by decide)) h.1 (congrArg a h.2)

end Cert.Proof

end
-- ==== Proof.Tile.lean ====
/-
  One task of the SparseCore call: the task at SparseCore `L 0`, subcore `L 1` gathers its row of each result.
-/
module

public import proofs.«01_k».proof.Proof.Trips

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

variable (d : Dev nD) (L : grid0.Coords)

/-- A whole buffer of the task written whole holds what was written. -/
theorem pts_whole_write (b : Ref sig .scVector) (q : PosShare TreeShare) (f w : b.ty.Contents (Elt F)) :
    ((Memref.whole b).view.loc (VT d L) ↦{q} View.write (Elt F) (Memref.whole b).view f w Finset.univ : sProp 𝕄)
      = ((Memref.whole b).view.loc (VT d L) ↦{q} w) :=
  congrArg (fun h => ((Memref.whole b).view.loc (VT d L) ↦{q} h : sProp 𝕄)) (View.write_whole_univ b f w)

/-- Whether the task's row is one of the small table's, as the task computes it. -/
abbrev slt16 (L : grid0.Coords) : BitVec 1 :=
  Scalar.cmpi .slt (Scalar.addi (Scalar.muli (BitVec.ofNat 32 (L 1).val) 2#32) (BitVec.ofNat 32 (L 0).val)) 16#32

/-- The six scratch buffers at whatever they hold. -/
def left6 : sProp 𝕄 :=
  iprop((∃ y, s0W.view.loc (VT d L) ↦{fullShare} y) ∗ (∃ y, s1W.view.loc (VT d L) ↦{fullShare} y)
    ∗ (∃ y, s2W.view.loc (VT d L) ↦{fullShare} y) ∗ (∃ y, s3W.view.loc (VT d L) ↦{fullShare} y)
    ∗ (∃ y, s4W.view.loc (VT d L) ↦{fullShare} y) ∗ (∃ y, s5W.view.loc (VT d L) ↦{fullShare} y))

/-- Every lane lies before the end of a loop of 256 trips. -/
theorem lt_trips {n : Nat} (h : n = 256) (j : S4096.Idx) : (j 0).val < 16 * n := by
  have : (j 0).val < 4096 := (j 0).isLt
  omega

/-- The task's run where it gathers a row of each table. -/
theorem tile_run (O : CellTallies nD τ sig (HIx 1)) (W : Waits sig (HIx 1)) (q : PosShare TreeShare)
    (a1 a2 a3 : Vec F S4096 .i32) (tu ti : Vec F S4x8x100000 .f32) (tc : Vec F S2x8x1000 .f32)
    (gu gi : Vec F S32x4096 .f32) (gc : Vec F S16x4096 .f32)
    (x0 x1 x2 : Vec F S4096 .i32) (x3 : Vec F S4096 .f32) (x4 : Vec F S100000 .f32) (x5 : Vec F S1000 .f32)
    (ha1 : ∀ j, (a1 j).toNat < 100000) (ha2 : ∀ j, (a2 j).toNat < 100000) (ha3 : ∀ j, (a3 j).toNat < 1000)
    (hk1 : k0_cond1 L = 1#1) (hk2 : k0_cond2 L = 1#1)
    (hk3 : ¬ (Scalar.cmpi .ne (Scalar.extui (Scalar.xori (slt16 L) 1#1) : BitVec 32) 0#32 = 1#1)) :
    (iprop(Transfers.MayWaits (VT d L) (none : HIx 1) O
        ∗ ((a1W).view.loc (VT d L) ↦{q} a1) ∗ ((a2W).view.loc (VT d L) ↦{q} a2) ∗ ((a3W).view.loc (VT d L) ↦{q} a3)
        ∗ ((tuW).view.loc (VT d L) ↦{q} tu) ∗ ((tiW).view.loc (VT d L) ↦{q} ti) ∗ ((tcW).view.loc (VT d L) ↦{q} tc)
        ∗ ((ouRow L).view.loc (VT d L) ↦[(ouRow L).view.set]{fullShare} gu)
        ∗ ((oiRow L).view.loc (VT d L) ↦[(oiRow L).view.set]{fullShare} gi)
        ∗ ((ocRow L hk2).view.loc (VT d L) ↦[(ocRow L hk2).view.set]{fullShare} gc)
        ∗ ((s0W).view.loc (VT d L) ↦{fullShare} x0) ∗ ((s1W).view.loc (VT d L) ↦{fullShare} x1)
        ∗ ((s2W).view.loc (VT d L) ↦{fullShare} x2) ∗ ((s3W).view.loc (VT d L) ↦{fullShare} x3)
        ∗ ((s4W).view.loc (VT d L) ↦{fullShare} x4) ∗ ((s5W).view.loc (VT d L) ↦{fullShare} x5)
        ∗ cells0 d L ∗ owes (VT d L) O W) : sProp 𝕄)
      ⊢ wp frame (wpE (defs₀ (F := F)) 𝒱₀ (VT d L) none) Set.univ
          (cc0__gather3 L a1W (Memref.isWhole_whole _) a2W (Memref.isWhole_whole _) a3W (Memref.isWhole_whole _)
            tuW (Memref.isWhole_whole _) tiW (Memref.isWhole_whole _) tcW (Memref.isWhole_whole _)
            ouW (Memref.isWhole_whole _) oiW (Memref.isWhole_whole _) ocW (Memref.isWhole_whole _)
            s0W (Memref.isWhole_whole _) s1W (Memref.isWhole_whole _) s2W (Memref.isWhole_whole _)
            s3W (Memref.isWhole_whole _) s4W (Memref.isWhole_whole _) s5W (Memref.isWhole_whole _)
            cc0_scratch6 cc0_scratch7 cc0_scratch8 cc0_scratch9 cc0_scratch10 cc0_scoped0 cc0_scoped1 cc0_scoped2)
          fun _ => iprop((a1W.view.loc (VT d L) ↦{q} a1) ∗ (a2W.view.loc (VT d L) ↦{q} a2) ∗ (a3W.view.loc (VT d L) ↦{q} a3)
            ∗ (tuW.view.loc (VT d L) ↦{q} tu) ∗ (tiW.view.loc (VT d L) ↦{q} ti) ∗ (tcW.view.loc (VT d L) ↦{q} tc)
            ∗ ((ouRow L).view.loc (VT d L) ↦[(ouRow L).view.set]{fullShare} gatherBig tu a1)
            ∗ ((oiRow L).view.loc (VT d L) ↦[(oiRow L).view.set]{fullShare} gatherBig ti a2)
            ∗ ((ocRow L hk2).view.loc (VT d L) ↦[(ocRow L hk2).view.set]{fullShare} gatherSmall tc a3)
            ∗ left6 d L ∗ cells0 d L ∗ ∃ W', owes (VT d L) O W') := by
  rw [cc0__gather3_eq_skeleton]; unfold cc0__gather3_skel
  rw [k0_part1_eq_skeleton]; unfold k0_part1_skel
  unfold cells0
  iintro ⟨#Hmw, H1, H2, H3, Hu, Hi, Hc, Hou, Hoi, Hoc, S0, S1, S2, S3, S4, S5, ⟨C6, C7, C8, C9, C10, D0, D1, D2⟩, HO⟩
  sl_exec
  ihave S0 := (Entails.of_eq (pts_whole_write d L cc0_scratch0 _ _ _)) $$ S0
  ihave S4 := (Entails.of_eq (pts_whole_write d L cc0_scratch4 _ _ _)) $$ S4
  rw [Prog.bind_assoc]
  sl_for (inv (F := F) d L (n := 100000) (by decide) s0W s4W a1 ((tuRow L).view.read (Elt F) tu)
    (fun j => (tuRow L).view.read (Elt F) tu (rowIx (n := 100000) (by decide) (a1 j)))) $$ [S0 S4 S3]
  case region => intro k _; exact trip1 d L a1 _ ha1 k
  · unfold inv
    isplitl [S0]; · iexact S0
    isplitl [S4]; · iexact S4
    iexists x3
    isplitr
    · ipureintro; intro j hj; exact absurd hj (by omega)
    · iexact S3
  iintro %_ HI
  unfold inv
  icases HI with ⟨S0, S4, %g1, %hg1, S3⟩
  replace hg1 := fun j => (hg1 j (lt_trips trips1 j)).trans (tuRow_read L tu (a1 j))
  sl_exec
  ihave Hou := (Entails.of_eq (ouRow_write d L tu a1 _ _ ?hx1)) $$ Hou
  · exact hg1
  ihave S2 := (Entails.of_eq (pts_whole_write d L cc0_scratch2 _ _ _)) $$ S2
  ihave S5 := (Entails.of_eq (pts_whole_write d L cc0_scratch5 _ _ _)) $$ S5
  sl_for (inv (F := F) d L (n := 1000) (by decide) s2W s5W a3 ((tcRow L hk1).view.read (Elt F) tc)
    (fun j => (tcRow L hk1).view.read (Elt F) tc (rowIx (n := 1000) (by decide) (a3 j)))) $$ [S2 S5 S3]
  case region => intro k _; exact trip2 d L a3 _ ha3 hk2 k
  · unfold inv
    isplitl [S2]; · iexact S2
    isplitl [S5]; · iexact S5
    iexists g1
    isplitr
    · ipureintro; intro j hj; exact absurd hj (by omega)
    · iexact S3
  iintro %_ HI
  unfold inv
  icases HI with ⟨S2, S5, %g2, %hg2, S3⟩
  replace hg2 := fun j => (hg2 j (lt_trips trips2 j)).trans (tcRow_read L hk1 tc (a3 j))
  sl_exec (disch := sl_exact hk3)
  ihave Hoc := (Entails.of_eq (ocRow_write d L hk2 tc a3 _ _ ?hx2)) $$ Hoc
  · exact hg2
  ihave S1 := (Entails.of_eq (pts_whole_write d L cc0_scratch1 _ _ _)) $$ S1
  ihave S4 := (Entails.of_eq (pts_whole_write d L cc0_scratch4 _ _ _)) $$ S4
  sl_for (inv (F := F) d L (n := 100000) (by decide) s1W s4W a2 ((tiRow L).view.read (Elt F) ti)
    (fun j => (tiRow L).view.read (Elt F) ti (rowIx (n := 100000) (by decide) (a2 j)))) $$ [S1 S4 S3]
  case region => intro k _; exact trip3 d L a2 _ ha2 k
  · unfold inv
    isplitl [S1]; · iexact S1
    isplitl [S4]; · iexact S4
    iexists g2
    isplitr
    · ipureintro; intro j hj; exact absurd hj (by omega)
    · iexact S3
  iintro %_ HI
  unfold inv
  icases HI with ⟨S1, S4, %g3, %hg3, S3⟩
  replace hg3 := fun j => (hg3 j (lt_trips trips3 j)).trans (tiRow_read L ti (a2 j))
  sl_exec
  ihave Hoi := (Entails.of_eq (oiRow_write d L ti a2 _ _ ?hx3)) $$ Hoi
  · exact hg3
  sl_step
  unfold left6
  isplitl [H1]; · iexact H1
  isplitl [H2]; · iexact H2
  isplitl [H3]; · iexact H3
  isplitl [Hu]; · iexact Hu
  isplitl [Hi]; · iexact Hi
  isplitl [Hc]; · iexact Hc
  isplitl [Hou]; · iexact Hou
  isplitl [Hoi]; · iexact Hoi
  isplitl [Hoc]; · iexact Hoc
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  isplitl [C6 C7 C8 C9 C10 D0 D1 D2]
  · isplitl [C6]; · iexact C6
    isplitl [C7]; · iexact C7
    isplitl [C8]; · iexact C8
    isplitl [C9]; · iexact C9
    isplitl [C10]; · iexact C10
    isplitl [D0]; · iexact D0
    isplitl [D1]; · iexact D1
    iexact D2
  iexists _; iexact HO

/-- The task's run where it gathers no row of the small table. -/
theorem tile_run_big (O : CellTallies nD τ sig (HIx 1)) (W : Waits sig (HIx 1)) (q : PosShare TreeShare)
    (a1 a2 a3 : Vec F S4096 .i32) (tu ti : Vec F S4x8x100000 .f32) (tc : Vec F S2x8x1000 .f32)
    (gu gi : Vec F S32x4096 .f32)
    (x0 x1 x2 : Vec F S4096 .i32) (x3 : Vec F S4096 .f32) (x4 : Vec F S100000 .f32) (x5 : Vec F S1000 .f32)
    (ha1 : ∀ j, (a1 j).toNat < 100000) (ha2 : ∀ j, (a2 j).toNat < 100000)
    (hk1 : ¬ k0_cond1 L = 1#1) (hk2 : ¬ k0_cond2 L = 1#1)
    (hk3 : (Scalar.cmpi .ne (Scalar.extui (Scalar.xori (slt16 L) 1#1) : BitVec 32) 0#32 = 1#1)) :
    (iprop(Transfers.MayWaits (VT d L) (none : HIx 1) O
        ∗ ((a1W).view.loc (VT d L) ↦{q} a1) ∗ ((a2W).view.loc (VT d L) ↦{q} a2) ∗ ((a3W).view.loc (VT d L) ↦{q} a3)
        ∗ ((tuW).view.loc (VT d L) ↦{q} tu) ∗ ((tiW).view.loc (VT d L) ↦{q} ti) ∗ ((tcW).view.loc (VT d L) ↦{q} tc)
        ∗ ((ouRow L).view.loc (VT d L) ↦[(ouRow L).view.set]{fullShare} gu)
        ∗ ((oiRow L).view.loc (VT d L) ↦[(oiRow L).view.set]{fullShare} gi)
        ∗ ((s0W).view.loc (VT d L) ↦{fullShare} x0) ∗ ((s1W).view.loc (VT d L) ↦{fullShare} x1)
        ∗ ((s2W).view.loc (VT d L) ↦{fullShare} x2) ∗ ((s3W).view.loc (VT d L) ↦{fullShare} x3)
        ∗ ((s4W).view.loc (VT d L) ↦{fullShare} x4) ∗ ((s5W).view.loc (VT d L) ↦{fullShare} x5)
        ∗ cells0 d L ∗ owes (VT d L) O W) : sProp 𝕄)
      ⊢ wp frame (wpE (defs₀ (F := F)) 𝒱₀ (VT d L) none) Set.univ
          (cc0__gather3 L a1W (Memref.isWhole_whole _) a2W (Memref.isWhole_whole _) a3W (Memref.isWhole_whole _)
            tuW (Memref.isWhole_whole _) tiW (Memref.isWhole_whole _) tcW (Memref.isWhole_whole _)
            ouW (Memref.isWhole_whole _) oiW (Memref.isWhole_whole _) ocW (Memref.isWhole_whole _)
            s0W (Memref.isWhole_whole _) s1W (Memref.isWhole_whole _) s2W (Memref.isWhole_whole _)
            s3W (Memref.isWhole_whole _) s4W (Memref.isWhole_whole _) s5W (Memref.isWhole_whole _)
            cc0_scratch6 cc0_scratch7 cc0_scratch8 cc0_scratch9 cc0_scratch10 cc0_scoped0 cc0_scoped1 cc0_scoped2)
          fun _ => iprop((a1W.view.loc (VT d L) ↦{q} a1) ∗ (a2W.view.loc (VT d L) ↦{q} a2) ∗ (a3W.view.loc (VT d L) ↦{q} a3)
            ∗ (tuW.view.loc (VT d L) ↦{q} tu) ∗ (tiW.view.loc (VT d L) ↦{q} ti) ∗ (tcW.view.loc (VT d L) ↦{q} tc)
            ∗ ((ouRow L).view.loc (VT d L) ↦[(ouRow L).view.set]{fullShare} gatherBig tu a1)
            ∗ ((oiRow L).view.loc (VT d L) ↦[(oiRow L).view.set]{fullShare} gatherBig ti a2)
            ∗ left6 d L ∗ cells0 d L ∗ ∃ W', owes (VT d L) O W') := by
  rw [cc0__gather3_eq_skeleton]; unfold cc0__gather3_skel
  rw [k0_part1_eq_skeleton]; unfold k0_part1_skel
  unfold cells0
  iintro ⟨#Hmw, H1, H2, H3, Hu, Hi, Hc, Hou, Hoi, S0, S1, S2, S3, S4, S5, ⟨C6, C7, C8, C9, C10, D0, D1, D2⟩, HO⟩
  sl_exec
  ihave S0 := (Entails.of_eq (pts_whole_write d L cc0_scratch0 _ _ _)) $$ S0
  ihave S4 := (Entails.of_eq (pts_whole_write d L cc0_scratch4 _ _ _)) $$ S4
  rw [Prog.bind_assoc]
  sl_for (inv (F := F) d L (n := 100000) (by decide) s0W s4W a1 ((tuRow L).view.read (Elt F) tu)
    (fun j => (tuRow L).view.read (Elt F) tu (rowIx (n := 100000) (by decide) (a1 j)))) $$ [S0 S4 S3]
  case region => intro k _; exact trip1 d L a1 _ ha1 k
  · unfold inv
    isplitl [S0]; · iexact S0
    isplitl [S4]; · iexact S4
    iexists x3
    isplitr
    · ipureintro; intro j hj; exact absurd hj (by omega)
    · iexact S3
  iintro %_ HI
  unfold inv
  icases HI with ⟨S0, S4, %g1, %hg1, S3⟩
  replace hg1 := fun j => (hg1 j (lt_trips trips1 j)).trans (tuRow_read L tu (a1 j))
  sl_exec (disch := sl_exact hk3)
  ihave Hou := (Entails.of_eq (ouRow_write d L tu a1 _ _ ?hx1)) $$ Hou
  · exact hg1
  ihave S1 := (Entails.of_eq (pts_whole_write d L cc0_scratch1 _ _ _)) $$ S1
  ihave S4 := (Entails.of_eq (pts_whole_write d L cc0_scratch4 _ _ _)) $$ S4
  sl_for (inv (F := F) d L (n := 100000) (by decide) s1W s4W a2 ((tiRow L).view.read (Elt F) ti)
    (fun j => (tiRow L).view.read (Elt F) ti (rowIx (n := 100000) (by decide) (a2 j)))) $$ [S1 S4 S3]
  case region => intro k _; exact trip3 d L a2 _ ha2 k
  · unfold inv
    isplitl [S1]; · iexact S1
    isplitl [S4]; · iexact S4
    iexists g1
    isplitr
    · ipureintro; intro j hj; exact absurd hj (by omega)
    · iexact S3
  iintro %_ HI
  unfold inv
  icases HI with ⟨S1, S4, %g3, %hg3, S3⟩
  replace hg3 := fun j => (hg3 j (lt_trips trips3 j)).trans (tiRow_read L ti (a2 j))
  sl_exec
  ihave Hoi := (Entails.of_eq (oiRow_write d L ti a2 _ _ ?hx3)) $$ Hoi
  · exact hg3
  sl_step
  unfold left6
  isplitl [H1]; · iexact H1
  isplitl [H2]; · iexact H2
  isplitl [H3]; · iexact H3
  isplitl [Hu]; · iexact Hu
  isplitl [Hi]; · iexact Hi
  isplitl [Hc]; · iexact Hc
  isplitl [Hou]; · iexact Hou
  isplitl [Hoi]; · iexact Hoi
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  isplitl [C6 C7 C8 C9 C10 D0 D1 D2]
  · isplitl [C6]; · iexact C6
    isplitl [C7]; · iexact C7
    isplitl [C8]; · iexact C8
    isplitl [C9]; · iexact C9
    isplitl [C10]; · iexact C10
    isplitl [D0]; · iexact D0
    isplitl [D1]; · iexact D1
    iexact D2
  iexists _; iexact HO

end Cert.Proof

end
-- ==== Proof.Launch.lean ====
/-
  The SparseCore call as the launch theorem asks for it: what the call hands a task and what it gets back, each task's
  obligation from its run, and the call's arrays dealt among the tasks and joined again.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## What the tasks get -/

/-- The six arrays that every task reads. -/
structure Ins (F : FTy → Type) where
  a1 : Vec F S4096 .i32
  a2 : Vec F S4096 .i32
  a3 : Vec F S4096 .i32
  tu : Vec F S4x8x100000 .f32
  ti : Vec F S4x8x100000 .f32
  tc : Vec F S2x8x1000 .f32

/-- The three arrays that the tasks write, a row each. -/
structure Outs (F : FTy → Type) where
  ou : Vec F S32x4096 .f32
  oi : Vec F S32x4096 .f32
  oc : Vec F S16x4096 .f32

/-- The gathered arrays. -/
def Ins.gather (A : Ins F) : Outs F := ⟨gatherBig A.tu A.a1, gatherBig A.ti A.a2, gatherSmall A.tc A.a3⟩

/-- Every index names a row of its table. -/
structure Ins.InRange (A : Ins F) : Prop where
  h1 : ∀ j, (A.a1 j).toNat < 100000
  h2 : ∀ j, (A.a2 j).toNat < 100000
  h3 : ∀ j, (A.a3 j).toNat < 1000

/-- Row `w` of an array of `g` rows: none if `w` is not below `g`. -/
def rowSet (g w : Nat) : Finset (⟨2, ![g, 4096]⟩ : Shape).Idx := Finset.univ.filter fun y => (y 0).val = w

/-- An entry is in row `w` when its first coordinate is `w`. -/
theorem mem_rowSet {g w : Nat} {y : (⟨2, ![g, 4096]⟩ : Shape).Idx} : y ∈ rowSet g w ↔ (y 0).val = w := by simp [rowSet]

/-- The grid point of a SparseCore and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The share of the six arrays that task `i` of SparseCore `c` reads with. -/
def shr (c : Fin 2) (i : Fin 16) : PosShare TreeShare :=
  Transfers.dealOf (Transfers.dealOf fullShare (Finset.univ : Finset (Fin 2)) c) (Finset.univ : Finset (Fin 16)) i

/-- What a task holds: its share of the six arrays, and its row of each result. -/
def taskPts (A : Ins F) (B : Outs F) (d : Dev nD) (q : PosShare TreeShare) (w : Nat) : sProp 𝕄 :=
  iprop((a1Loc d ↦{q} A.a1) ∗ (a2Loc d ↦{q} A.a2) ∗ (a3Loc d ↦{q} A.a3)
    ∗ (tuLoc d ↦{q} A.tu) ∗ (tiLoc d ↦{q} A.ti) ∗ (tcLoc d ↦{q} A.tc)
    ∗ (ouLoc d ↦[rowSet 32 w]{fullShare} B.ou) ∗ (oiLoc d ↦[rowSet 32 w]{fullShare} B.oi)
    ∗ (ocLoc d ↦[rowSet 16 w]{fullShare} B.oc))

/-- A task's holding may be handed over at a semaphore. -/
instance taskPts_storable (A : Ins F) (B : Outs F) (d : Dev nD) (q : PosShare TreeShare) (w : Nat) :
    BI.Storable (upEmb : UEmb _ 𝕄) (taskPts A B d q w) := by unfold taskPts; infer_instance

/-- What SparseCore `c` holds: its tasks' holdings. -/
def corePts (A : Ins F) (B : Outs F) (d : Dev nD) (c : Fin 2) : sProp 𝕄 :=
  bigSep Finset.univ fun i : Fin 16 => taskPts A B d (shr c i) (2 * i.val + c.val)

/-- So may a SparseCore's. -/
instance corePts_storable (A : Ins F) (B : Outs F) (d : Dev nD) (c : Fin 2) :
    BI.Storable (upEmb : UEmb _ 𝕄) (corePts A B d c) := by unfold corePts; infer_instance

/-- The call runs on two SparseCores, -/
theorem nCore_zero : (K (F := F)).nCore 0 = 2 := rfl
/-- each with sixteen tasks. -/
theorem nSub_zero : (K (F := F)).nSub 0 = 16 := rfl

/-- The one call hands every task its holding and takes it back with the row gathered. -/
def P (A : Dev nD → Ins F) (B : Dev nD → Outs F) : (K (F := F)).Pay (nD := nD) (Val := Elt F) (Name := ℕ) (U := UU) where
  st := fun q d c => match q with | 0 => corePts (A d) (B d) d (Fin.cast nCore_zero c)
  dn := fun q d c => match q with | 0 => corePts (A d) (A d).gather d (Fin.cast nCore_zero c)
  go := fun q d c i => match q with
    | 0 => taskPts (A d) (B d) d (shr (Fin.cast nCore_zero c) (Fin.cast nSub_zero i)) (2 * i.val + c.val)
  td := fun q d c i => match q with
    | 0 => taskPts (A d) (A d).gather d (shr (Fin.cast nCore_zero c) (Fin.cast nSub_zero i)) (2 * i.val + c.val)
  x := fun _ _ => iprop(emp)

/-- Everything the call hands over may be handed over at a semaphore. -/
instance P_storable (A : Dev nD → Ins F) (B : Dev nD → Outs F) : (P A B).IsStorable where
  st q d c := match q with
    | 0 => (inferInstance : BI.Storable (upEmb : UEmb _ 𝕄) (corePts (A d) (B d) d (Fin.cast nCore_zero c)))
  dn q d c := match q with
    | 0 => (inferInstance : BI.Storable (upEmb : UEmb _ 𝕄) (corePts (A d) (A d).gather d (Fin.cast nCore_zero c)))
  go q d c i := match q with
    | 0 => (inferInstance : BI.Storable (upEmb : UEmb _ 𝕄)
        (taskPts (A d) (B d) d (shr (Fin.cast nCore_zero c) (Fin.cast nSub_zero i)) (2 * i.val + c.val)))
  td q d c i := match q with
    | 0 => (inferInstance : BI.Storable (upEmb : UEmb _ 𝕄)
        (taskPts (A d) (A d).gather d (shr (Fin.cast nCore_zero c) (Fin.cast nSub_zero i)) (2 * i.val + c.val)))

/-- A SparseCore's start is its tasks' starts, and their ends are its end. -/
theorem vecSplit (A : Dev nD → Ins F) (B : Dev nD → Outs F) : (K (F := F)).VecSplit' (P A B) 0 := by
  intro d c
  show corePts (A d) (B d) d (Fin.cast nCore_zero c) ⊢ |={Set.univ}=> iprop(
      corePts (A d) (B d) d (Fin.cast nCore_zero c)
      ∗ (corePts (A d) (A d).gather d (Fin.cast nCore_zero c) -∗ corePts (A d) (A d).gather d (Fin.cast nCore_zero c)))
  iintro H; imodintro
  isplitl [H]; · iexact H
  iintro H; iexact H

/-! ## The arrays dealt and joined -/

/-- An array is the shares of it that the tasks read with. -/
theorem pts_shares (ℓ : Loc nD τ sig) (f : Buf (Elt F) ℓ) :
    (ℓ ↦{fullShare} f : sProp 𝕄)
      = bigSep Finset.univ fun c : Fin 2 => bigSep Finset.univ fun i : Fin 16 => ℓ ↦{shr c i} f := by
  rw [Transfers.pointsTo_deal (Finset.univ : Finset (Fin 2)) Finset.univ_nonempty]
  exact bigSep_congr fun c _ => Transfers.pointsTo_deal (Finset.univ : Finset (Fin 16)) Finset.univ_nonempty _

/-- The rows of the tasks of SparseCore `c`. -/
def coreSet (g : Nat) (c : Nat) : Finset (⟨2, ![g, 4096]⟩ : Shape).Idx := Finset.univ.filter fun y => (y 0).val % 2 = c

/-- The rows of a SparseCore are its sixteen tasks' rows. -/
theorem coreSet_eq (g : Nat) (hg : g ≤ 32) (c : Fin 2) :
    (Finset.univ : Finset (Fin 16)).biUnion (fun i => rowSet g (2 * i.val + c.val)) = coreSet g c.val := by
  ext y
  have hy : (y 0).val < g := (y 0).isLt
  have hc := c.isLt
  simp only [Finset.mem_biUnion, Finset.mem_univ, true_and, mem_rowSet, coreSet, Finset.mem_filter]
  constructor
  · rintro ⟨i, h⟩; omega
  · intro h
    exact ⟨⟨(y 0).val / 2, by omega⟩, by show (y 0).val = 2 * ((y 0).val / 2) + c.val; omega⟩

/-- The two SparseCores' rows are all the rows. -/
theorem univ_eq (g : Nat) : (Finset.univ : Finset (Fin 2)).biUnion (fun c => coreSet g c.val) = Finset.univ := by
  ext y
  simp only [Finset.mem_biUnion, Finset.mem_univ, true_and, iff_true, coreSet, Finset.mem_filter]
  exact ⟨⟨(y 0).val % 2, Nat.mod_lt _ (by decide)⟩, rfl⟩

/-- Two rows have no entry in common, -/
theorem rowSet_disjoint {g w w' : Nat} (h : w ≠ w') : Disjoint (rowSet g w) (rowSet g w') :=
  Finset.disjoint_left.mpr fun y h1 h2 => h ((mem_rowSet.mp h1).symm.trans (mem_rowSet.mp h2))

/-- nor have the two SparseCores' rows. -/
theorem coreSet_disjoint {g c c' : Nat} (h : c ≠ c') : Disjoint (coreSet g c) (coreSet g c') :=
  Finset.disjoint_left.mpr fun y h1 h2 =>
    h ((Finset.mem_filter.mp h1).2.symm.trans (Finset.mem_filter.mp h2).2)

/-- The large results are the tasks' rows. -/
theorem ou_rows (d : Dev nD) (f : Vec F S32x4096 .f32) :
    (ouLoc d ↦{fullShare} f : sProp 𝕄)
      = bigSep Finset.univ fun c : Fin 2 => bigSep Finset.univ fun i : Fin 16 => ouLoc d ↦[rowSet 32 (2 * i.val + c.val)]{fullShare} f := by
  have e1 := pointsTo_biUnion (Ix := HIx 1) (Name := ℕ) (U := UU) (Lvl := ℕ) (q := fullShare) (f := f) (ℓ := ouLoc d)
    (Finset.univ : Finset (Fin 2)) (fun c => coreSet 32 c.val)
    (fun c _ c' _ h => coreSet_disjoint fun e => h (Fin.ext e))
  rw [univ_eq] at e1
  refine e1.trans (bigSep_congr fun c _ => ?_)
  rw [← coreSet_eq 32 (le_refl _) c]
  exact pointsTo_biUnion (ℓ := ouLoc d) (Finset.univ : Finset (Fin 16)) (fun i => rowSet 32 (2 * i.val + c.val))
    (fun i _ i' _ h => rowSet_disjoint fun e => h (Fin.ext (by omega)))

/-- The same of the items' result. -/
theorem oi_rows (d : Dev nD) (f : Vec F S32x4096 .f32) :
    (oiLoc d ↦{fullShare} f : sProp 𝕄)
      = bigSep Finset.univ fun c : Fin 2 => bigSep Finset.univ fun i : Fin 16 => oiLoc d ↦[rowSet 32 (2 * i.val + c.val)]{fullShare} f := by
  have e1 := pointsTo_biUnion (Ix := HIx 1) (Name := ℕ) (U := UU) (Lvl := ℕ) (q := fullShare) (f := f) (ℓ := oiLoc d)
    (Finset.univ : Finset (Fin 2)) (fun c => coreSet 32 c.val)
    (fun c _ c' _ h => coreSet_disjoint fun e => h (Fin.ext e))
  rw [univ_eq] at e1
  refine e1.trans (bigSep_congr fun c _ => ?_)
  rw [← coreSet_eq 32 (le_refl _) c]
  exact pointsTo_biUnion (ℓ := oiLoc d) (Finset.univ : Finset (Fin 16)) (fun i => rowSet 32 (2 * i.val + c.val))
    (fun i _ i' _ h => rowSet_disjoint fun e => h (Fin.ext (by omega)))

/-- The small result is the rows of the tasks that have one. -/
theorem oc_rows (d : Dev nD) (f : Vec F S16x4096 .f32) :
    (ocLoc d ↦{fullShare} f : sProp 𝕄)
      = bigSep Finset.univ fun c : Fin 2 => bigSep Finset.univ fun i : Fin 16 => ocLoc d ↦[rowSet 16 (2 * i.val + c.val)]{fullShare} f := by
  have e1 := pointsTo_biUnion (Ix := HIx 1) (Name := ℕ) (U := UU) (Lvl := ℕ) (q := fullShare) (f := f) (ℓ := ocLoc d)
    (Finset.univ : Finset (Fin 2)) (fun c => coreSet 16 c.val)
    (fun c _ c' _ h => coreSet_disjoint fun e => h (Fin.ext e))
  rw [univ_eq] at e1
  refine e1.trans (bigSep_congr fun c _ => ?_)
  rw [← coreSet_eq 16 (by decide) c]
  exact pointsTo_biUnion (ℓ := ocLoc d) (Finset.univ : Finset (Fin 16)) (fun i => rowSet 16 (2 * i.val + c.val))
    (fun i _ i' _ h => rowSet_disjoint fun e => h (Fin.ext (by omega)))

/-- The nine arrays of the call, whole. -/
def callPts (A : Ins F) (B : Outs F) (d : Dev nD) : sProp 𝕄 :=
  iprop((a1Loc d ↦{fullShare} A.a1) ∗ (a2Loc d ↦{fullShare} A.a2) ∗ (a3Loc d ↦{fullShare} A.a3)
    ∗ (tuLoc d ↦{fullShare} A.tu) ∗ (tiLoc d ↦{fullShare} A.ti) ∗ (tcLoc d ↦{fullShare} A.tc)
    ∗ (ouLoc d ↦{fullShare} B.ou) ∗ (oiLoc d ↦{fullShare} B.oi) ∗ (ocLoc d ↦{fullShare} B.oc))

/-- The nine arrays whole are what the SparseCores hold. -/
theorem deal (A : Ins F) (B : Outs F) (d : Dev nD) :
    (callPts A B d : sProp 𝕄) = bigSep Finset.univ fun c : Fin 2 => corePts A B d c := by
  unfold callPts corePts taskPts
  simp only [bigSep_sep', ou_rows, oi_rows, oc_rows]
  rw [pts_shares (a1Loc d), pts_shares (a2Loc d), pts_shares (a3Loc d), pts_shares (tuLoc d), pts_shares (tiLoc d), pts_shares (tcLoc d)]

/-! ## The task's own buffers and semaphores -/

variable [FloatOps F]

section Tile

variable (d : Dev nD) (L : grid0.Coords)

/-- The task's eight transfer semaphores. -/
abbrev sems8 : Finset (SemLoc sig) :=
  {.dma cc0_scratch6.sem, .dma cc0_scratch7.sem, .dma cc0_scratch8.sem, .dma cc0_scratch9.sem, .dma cc0_scratch10.sem,
    .dma cc0_scoped0.sem, .dma cc0_scoped1.sem, .dma cc0_scoped2.sem}

/-- The task's eight semaphores are a subcore's own. -/
theorem sems8_scoped : ∀ s ∈ sems8, s.isScoped .scVector = true := by decide

/-- The subcore's own semaphores are the task's eight and the rest. -/
theorem ownSems0_V : ∃ R : sProp 𝕄, (ownSems0 (VT d L) : sProp 𝕄) = iprop(cells0 d L ∗ R) := by
  have e : (bigSep (sems8.image fun s => ((VT d L, s) : GSem nD τ sig)) fun g => semVal g 0 : sProp 𝕄) = cells0 d L := by
    rw [SparseCore.bigSep_image_of_injOn (fun a _ b _ e => (Prod.mk.inj e).2)]
    unfold sems8 cells0
    rw [SparseCore.bigSep_insert' (by decide), SparseCore.bigSep_insert' (by decide), SparseCore.bigSep_insert' (by decide),
      SparseCore.bigSep_insert' (by decide), SparseCore.bigSep_insert' (by decide), SparseCore.bigSep_insert' (by decide),
      SparseCore.bigSep_insert' (by decide), bigSep_singleton]
  have hsub : (sems8.image fun s => ((VT d L, s) : GSem nD τ sig)) ⊆ ownCells (VT d L) := fun g hg => by
    obtain ⟨s, hs, rfl⟩ := Finset.mem_image.mp hg
    exact mem_ownCells.mpr ⟨rfl, sems8_scoped s hs⟩
  unfold SparseCore.Cfg.ownSems0
  rw [SparseCore.bigSep_sdiff_split' hsub, e]
  exact ⟨_, rfl⟩

/-- The task's six scratch buffers. -/
abbrev bufs6 : Finset (Ref sig .scVector) :=
  {cc0_scratch0, cc0_scratch1, cc0_scratch2, cc0_scratch3, cc0_scratch4, cc0_scratch5}

/-- The subcore's own buffers are the task's six and the rest. -/
theorem ownBufs_V : ∃ R : sProp 𝕄, (ownBufs (VT d L) : sProp 𝕄) = iprop(left6 d L ∗ R) := by
  refine ⟨_, (SparseCore.bigSep_sdiff_split' (t := bufs6.image fun b : Ref sig .scVector => (Proc.scVector (cV L) (jV L)).devRef b) (fun g hg => by
    obtain ⟨b, hb, rfl⟩ := Finset.mem_image.mp hg
    simp only [bufs6, Finset.mem_insert, Finset.mem_singleton] at hb
    rcases hb with rfl | rfl | rfl | rfl | rfl | rfl <;>
      exact SparseCore.Cfg.mem_ownRefs_of_owner (p := Proc.scVector (cV L) (jV L)) rfl)).trans (congrArg (fun X : sProp 𝕄 => iprop(X ∗ _)) ?_)⟩
  rw [SparseCore.bigSep_image_of_injOn (f := fun b : Ref sig .scVector => (Proc.scVector (cV L) (jV L)).devRef b)
    (fun a _ b _ e => Proc.devRef_injective _ e)]
  unfold bufs6 left6
  rw [SparseCore.bigSep_insert' (by decide), SparseCore.bigSep_insert' (by decide), SparseCore.bigSep_insert' (by decide),
    SparseCore.bigSep_insert' (by decide), SparseCore.bigSep_insert' (by decide), bigSep_singleton]

/-! ## The task's obligation -/

/-- The rows that the task slices are its rows. -/
theorem set_ouRow : (ouRow L).view.set = rowSet 32 (wid L) := by
  ext y
  have hE : ∀ x, (ouRow L).view.emb x = (Rect.unit (s := S32x4096) (k0_off5 L) S1x4096.size (k0_off5_inb L)).emb (Shape.reshapeEquiv (show S4096.numel = S1x4096.numel by decide) x) := fun _ => rfl
  constructor
  · intro h
    obtain ⟨x, -, rfl⟩ := Finset.mem_map.mp h
    exact mem_rowSet.mpr (out_emb (g := 32) (k0_off5 L) (wid L) (wid_off5 L) (k0_off5_inb L) (by decide) x).1
  · intro h
    have e := out_emb (g := 32) (k0_off5 L) (wid L) (wid_off5 L) (k0_off5_inb L) (by decide) (lane (y 1))
    refine Finset.mem_map.mpr ⟨lane (y 1), Finset.mem_univ _, ?_⟩
    refine (hE _).trans ?_
    funext a
    match a with
    | ⟨0, _⟩ => exact Fin.ext (e.1.trans (mem_rowSet.mp h).symm)
    | ⟨1, _⟩ => exact congrFun e.2 0

/-- The items' row as the task slices it is row `wid L` of the result. -/
theorem set_oiRow : (oiRow L).view.set = rowSet 32 (wid L) := set_ouRow L

/-- The categories' row as the task slices it is row `wid L` of the small result. -/
theorem set_ocRow (h2 : k0_cond2 L = 1#1) : (ocRow L h2).view.set = rowSet 16 (wid L) := by
  ext y
  have hE : ∀ x, (ocRow L h2).view.emb x = (Rect.unit (s := S16x4096) (k0_off8 L) S1x4096.size (k0_off8_inb L h2)).emb (Shape.reshapeEquiv (show S4096.numel = S1x4096.numel by decide) x) := fun _ => rfl
  constructor
  · intro h
    obtain ⟨x, -, rfl⟩ := Finset.mem_map.mp h
    exact mem_rowSet.mpr (out_emb (g := 16) (k0_off8 L) (wid L) (wid_off8 L) (k0_off8_inb L h2) (by decide) x).1
  · intro h
    have e := out_emb (g := 16) (k0_off8 L) (wid L) (wid_off8 L) (k0_off8_inb L h2) (by decide) (lane (y 1))
    refine Finset.mem_map.mpr ⟨lane (y 1), Finset.mem_univ _, ?_⟩
    refine (hE _).trans ?_
    funext a
    match a with
    | ⟨0, _⟩ => exact Fin.ext (e.1.trans (mem_rowSet.mp h).symm)
    | ⟨1, _⟩ => exact congrFun e.2 0

/-- Holding the users' row as the task slices it is holding row `wid L` of the result. -/
theorem pts_ouRow (f : Vec F S32x4096 .f32) :
    ((ouRow L).view.loc (VT d L) ↦[(ouRow L).view.set]{fullShare} f : sProp 𝕄) = (ouLoc d ↦[rowSet 32 (wid L)]{fullShare} f) := by
  rw [set_ouRow]
/-- The same of the items' row. -/
theorem pts_oiRow (f : Vec F S32x4096 .f32) :
    ((oiRow L).view.loc (VT d L) ↦[(oiRow L).view.set]{fullShare} f : sProp 𝕄) = (oiLoc d ↦[rowSet 32 (wid L)]{fullShare} f) := by
  rw [set_oiRow]
/-- The same of the categories' row. -/
theorem pts_ocRow (h2 : k0_cond2 L = 1#1) (f : Vec F S16x4096 .f32) :
    ((ocRow L h2).view.loc (VT d L) ↦[(ocRow L h2).view.set]{fullShare} f : sProp 𝕄) = (ocLoc d ↦[rowSet 16 (wid L)]{fullShare} f) := by
  rw [set_ocRow]

/-- A task whose number is 16 or more has no row of the small result. -/
theorem rowSet_none (h : ¬ wid L < 16) : rowSet 16 (wid L) = ∅ :=
  Finset.eq_empty_of_forall_notMem fun y hy => h ((mem_rowSet.mp hy) ▸ (y 0).isLt)

/-- A task whose number is below 16 does not take the branch of the others, -/
theorem slt16_neg : ∀ L : grid0.Coords, wid L < 16 →
    ¬ (Scalar.cmpi .ne (Scalar.extui (Scalar.xori (slt16 L) 1#1) : BitVec 32) 0#32 = 1#1) := by
  unfold wid slt16; decide +kernel
/-- and a task whose number is 16 or more does. -/
theorem slt16_pos : ∀ L : grid0.Coords, ¬ wid L < 16 →
    (Scalar.cmpi .ne (Scalar.extui (Scalar.xori (slt16 L) 1#1) : BitVec 32) 0#32 = 1#1) := by
  unfold wid slt16; decide +kernel

/-- The task on vector subcore `(L 0, L 1)`: from its holding, its row of each result gathered. -/
theorem tile_body (A : Ins F) (B : Outs F) (hA : A.InRange) (q : PosShare TreeShare)
    (O : CellTallies nD τ sig (HIx 1)) (W : Waits sig (HIx 1)) (hO : ∀ g, O g none = 0) :
    iprop(levAts (K (F := F)).L (K (F := F)).lev ∗ emp ∗ taskPts A B d q (wid L)
        ∗ scopedBufs (VT d L) ∗ scopedSems0 (VT d L) ∗ owes (VT d L) O W)
      ⊢ wp frame (wpE (defs₀ (F := F)) 𝒱₀ (VT d L) none) Set.univ
          (cc0__gather3 L a1W (Memref.isWhole_whole _) a2W (Memref.isWhole_whole _) a3W (Memref.isWhole_whole _)
            tuW (Memref.isWhole_whole _) tiW (Memref.isWhole_whole _) tcW (Memref.isWhole_whole _)
            ouW (Memref.isWhole_whole _) oiW (Memref.isWhole_whole _) ocW (Memref.isWhole_whole _)
            s0W (Memref.isWhole_whole _) s1W (Memref.isWhole_whole _) s2W (Memref.isWhole_whole _)
            s3W (Memref.isWhole_whole _) s4W (Memref.isWhole_whole _) s5W (Memref.isWhole_whole _)
            cc0_scratch6 cc0_scratch7 cc0_scratch8 cc0_scratch9 cc0_scratch10 cc0_scoped0 cc0_scoped1 cc0_scoped2)
          fun _ => iprop(taskPts A A.gather d q (wid L) ∗ scopedBufs (VT d L) ∗ scopedSems0 (VT d L)
            ∗ ∃ W', ⌜∀ p ∈ W', p ∈ W ∨ p.2 = none ∨ p.2 = some (0 : Fin 1)⌝ ∗ owes (VT d L) O W') := by
  have hW : ∀ W' : Waits sig (HIx 1), ∀ p ∈ W', p ∈ W ∨ p.2 = none ∨ p.2 = some (0 : Fin 1) := fun W' p _ => .inr (by
    rcases p.2 with _ | x
    · exact .inl rfl
    · exact .inr (congrArg some (Subsingleton.elim _ _)))
  obtain ⟨R, eR⟩ := ownSems0_V (F := F) d L
  obtain ⟨R', eR'⟩ := ownBufs_V (F := F) d L
  rw [(K (F := F)).scopedBufs_V facts d (cV L) (jV L), SparseCore.Cfg.scopedSems0_V (Val := Elt F) d (cV L) (jV L), eR, eR']
  unfold taskPts left6
  iintro ⟨#Hlv, -, ⟨H1, H2, H3, Hu, Hi, Hc, Hou, Hoi, Hoc⟩,
    ⟨⟨⟨%x0, S0⟩, ⟨%x1, S1⟩, ⟨%x2, S2⟩, ⟨%x3, S3⟩, ⟨%x4, S4⟩, ⟨%x5, S5⟩⟩, Hbufs⟩, ⟨Hcells, Hsems⟩, HO⟩
  ihave Hmw := ((K (F := F)).mayWaits_none (thr := VT d L) hO) $$ Hlv
  ihave Hou := (Entails.of_eq (pts_ouRow (F := F) d L _).symm) $$ Hou
  ihave Hoi := (Entails.of_eq (pts_oiRow (F := F) d L _).symm) $$ Hoi
  by_cases hw : wid L < 16
  · have h2 := (cond2_iff L).mpr hw
    ihave Hoc := (Entails.of_eq (pts_ocRow (F := F) d L h2 _).symm) $$ Hoc
    iapply (wp_wand_r Idealize.ShloMosaic.frame (wpE (defs₀ (F := F)) 𝒱₀ (VT d L) none) Set.univ)
    isplitl [Hmw H1 H2 H3 Hu Hi Hc Hou Hoi Hoc S0 S1 S2 S3 S4 S5 Hcells HO]
    · iapply (tile_run d L O W q A.a1 A.a2 A.a3 A.tu A.ti A.tc B.ou B.oi B.oc x0 x1 x2 x3 x4 x5 hA.h1 hA.h2 hA.h3
        ((cond1_iff L).mpr hw) h2 (slt16_neg L hw)) $$ [Hmw H1 H2 H3 Hu Hi Hc Hou Hoi Hoc S0 S1 S2 S3 S4 S5 Hcells HO]
      isplitl [Hmw]; · iexact Hmw
      isplitl [H1]; · iexact H1
      isplitl [H2]; · iexact H2
      isplitl [H3]; · iexact H3
      isplitl [Hu]; · iexact Hu
      isplitl [Hi]; · iexact Hi
      isplitl [Hc]; · iexact Hc
      isplitl [Hou]; · iexact Hou
      isplitl [Hoi]; · iexact Hoi
      isplitl [Hoc]; · iexact Hoc
      isplitl [S0]; · iexact S0
      isplitl [S1]; · iexact S1
      isplitl [S2]; · iexact S2
      isplitl [S3]; · iexact S3
      isplitl [S4]; · iexact S4
      isplitl [S5]; · iexact S5
      isplitl [Hcells]; · iexact Hcells
      iexact HO
    iintro %_ ⟨H1, H2, H3, Hu, Hi, Hc, Hou, Hoi, Hoc, H6, Hcells, %W', HO⟩
    ihave Hou := (Entails.of_eq (pts_ouRow (F := F) d L _)) $$ Hou
    ihave Hoi := (Entails.of_eq (pts_oiRow (F := F) d L _)) $$ Hoi
    ihave Hoc := (Entails.of_eq (pts_ocRow (F := F) d L h2 _)) $$ Hoc
    unfold left6
    isplitl [H1 H2 H3 Hu Hi Hc Hou Hoi Hoc]
    · isplitl [H1]; · iexact H1
      isplitl [H2]; · iexact H2
      isplitl [H3]; · iexact H3
      isplitl [Hu]; · iexact Hu
      isplitl [Hi]; · iexact Hi
      isplitl [Hc]; · iexact Hc
      isplitl [Hou]; · iexact Hou
      isplitl [Hoi]; · iexact Hoi
      iexact Hoc
    isplitl [H6 Hbufs]
    · isplitl [H6]; · iexact H6
      iexact Hbufs
    isplitl [Hcells Hsems]
    · isplitl [Hcells]; · iexact Hcells
      iexact Hsems
    iexists W'
    isplitr; · ipureintro; exact hW W'
    iexact HO
  · iapply (wp_wand_r Idealize.ShloMosaic.frame (wpE (defs₀ (F := F)) 𝒱₀ (VT d L) none) Set.univ)
    isplitl [Hmw H1 H2 H3 Hu Hi Hc Hou Hoi S0 S1 S2 S3 S4 S5 Hcells HO]
    · iapply (tile_run_big d L O W q A.a1 A.a2 A.a3 A.tu A.ti A.tc B.ou B.oi x0 x1 x2 x3 x4 x5 hA.h1 hA.h2
        (fun h => hw ((cond1_iff L).mp h)) (fun h => hw ((cond2_iff L).mp h)) (slt16_pos L hw)) $$ [Hmw H1 H2 H3 Hu Hi Hc Hou Hoi S0 S1 S2 S3 S4 S5 Hcells HO]
      isplitl [Hmw]; · iexact Hmw
      isplitl [H1]; · iexact H1
      isplitl [H2]; · iexact H2
      isplitl [H3]; · iexact H3
      isplitl [Hu]; · iexact Hu
      isplitl [Hi]; · iexact Hi
      isplitl [Hc]; · iexact Hc
      isplitl [Hou]; · iexact Hou
      isplitl [Hoi]; · iexact Hoi
      isplitl [S0]; · iexact S0
      isplitl [S1]; · iexact S1
      isplitl [S2]; · iexact S2
      isplitl [S3]; · iexact S3
      isplitl [S4]; · iexact S4
      isplitl [S5]; · iexact S5
      isplitl [Hcells]; · iexact Hcells
      iexact HO
    iintro %_ ⟨H1, H2, H3, Hu, Hi, Hc, Hou, Hoi, H6, Hcells, %W', HO⟩
    ihave Hou := (Entails.of_eq (pts_ouRow (F := F) d L _)) $$ Hou
    ihave Hoi := (Entails.of_eq (pts_oiRow (F := F) d L _)) $$ Hoi
    ihave Hoc := (Entails.of_eq (pointsTo_congr (g := A.gather.oc) (fun y hy => absurd ((rowSet_none L hw) ▸ hy) (Finset.notMem_empty y)))) $$ Hoc
    unfold left6
    isplitl [H1 H2 H3 Hu Hi Hc Hou Hoi Hoc]
    · isplitl [H1]; · iexact H1
      isplitl [H2]; · iexact H2
      isplitl [H3]; · iexact H3
      isplitl [Hu]; · iexact Hu
      isplitl [Hi]; · iexact Hi
      isplitl [Hc]; · iexact Hc
      isplitl [Hou]; · iexact Hou
      isplitl [Hoi]; · iexact Hoi
      iexact Hoc
    isplitl [H6 Hbufs]
    · isplitl [H6]; · iexact H6
      iexact Hbufs
    isplitl [Hcells Hsems]
    · isplitl [Hcells]; · iexact Hcells
      iexact Hsems
    iexists W'
    isplitr; · ipureintro; exact hW W'
    iexact HO

end Tile

/-- What a vector subcore runs for the call. -/
theorem defs₀_vector (c : Fin τ.nSC) (s : Fin τ.nSub) :
    defs₀ (F := F) (.scVector c s) 0 ()
      = SparseCore.onTile hcore0 hsub0 (fun c s => cc0__gather3 (coordsV c s)
          a1W (Memref.isWhole_whole _) a2W (Memref.isWhole_whole _) a3W (Memref.isWhole_whole _)
          tuW (Memref.isWhole_whole _) tiW (Memref.isWhole_whole _) tcW (Memref.isWhole_whole _)
          ouW (Memref.isWhole_whole _) oiW (Memref.isWhole_whole _) ocW (Memref.isWhole_whole _)
          s0W (Memref.isWhole_whole _) s1W (Memref.isWhole_whole _) s2W (Memref.isWhole_whole _)
          s3W (Memref.isWhole_whole _) s4W (Memref.isWhole_whole _) s5W (Memref.isWhole_whole _)
          cc0_scratch6 cc0_scratch7 cc0_scratch8 cc0_scratch9 cc0_scratch10 cc0_scoped0 cc0_scoped1 cc0_scoped2) ⟨⟩ c s := rfl

/-- Every task meets what the launch asks of it. -/
theorem tileObl (A : Dev nD → Ins F) (B : Dev nD → Outs F) (hA : ∀ d, (A d).InRange) :
    (K (F := F)).TileObl (D (F := F)) 𝒱 (P A B) v₀ 0 := by
  intro d c i O W hO _ _
  simp only [show (P A B).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body d (coordsV ⟨_, hc.1⟩ ⟨_, hc.2⟩) (A d) (B d) (hA d) (shr (Fin.cast nCore_zero c) (Fin.cast nSub_zero i)) O W hO

end Cert.Proof

end
-- ==== Proof.Mlp.lean ====
/-
  The TensorCore's kernel: its body's run, what it leaves in its result.
-/
module

public import proofs.«01_k».proof.Proof.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic

variable {F : FTy → Type}

local notation "𝕄" => MT nD τ sig (HIx 1) (Elt F) ℕ UU ℕ

variable [FloatOps F]

/-- The kernel's staging buffers. -/
abbrev g0 : Memref sig .tc .vmem S4096x128 .f32 := Memref.whole cc1_stg0_0
/-- Of the users' rows. -/
abbrev g1 : Memref sig .tc .vmem S32x4096 .f32 := Memref.whole cc1_stg1_0
/-- Of the items' rows. -/
abbrev g2 : Memref sig .tc .vmem S32x4096 .f32 := Memref.whole cc1_stg2_0
/-- Of the categories' rows. -/
abbrev g3 : Memref sig .tc .vmem S16x4096 .f32 := Memref.whole cc1_stg3_0
/-- Of the features' weights. -/
abbrev g4 : Memref sig .tc .vmem S128x512 .f32 := Memref.whole cc1_stg4_0
/-- Of the users' weights. -/
abbrev g5 : Memref sig .tc .vmem S32x512 .f32 := Memref.whole cc1_stg5_0
/-- Of the items' weights. -/
abbrev g6 : Memref sig .tc .vmem S32x512 .f32 := Memref.whole cc1_stg6_0
/-- Of the categories' weights. -/
abbrev g7 : Memref sig .tc .vmem S16x512 .f32 := Memref.whole cc1_stg7_0
/-- Of the first bias. -/
abbrev g8 : Memref sig .tc .vmem S1x512 .f32 := Memref.whole cc1_stg8_0
/-- Of the second weights. -/
abbrev g9 : Memref sig .tc .vmem S512x256 .f32 := Memref.whole cc1_stg9_0
/-- Of the second bias. -/
abbrev g10 : Memref sig .tc .vmem S1x256 .f32 := Memref.whole cc1_stg10_0
/-- Of the third weights. -/
abbrev g11 : Memref sig .tc .vmem S256x128 .f32 := Memref.whole cc1_stg11_0
/-- Of the third bias. -/
abbrev g12 : Memref sig .tc .vmem S1x128 .f32 := Memref.whole cc1_stg12_0
/-- Of the last weights. -/
abbrev g13 : Memref sig .tc .vmem S128x256 .f32 := Memref.whole cc1_stg13_0
/-- Of the last bias. -/
abbrev g14 : Memref sig .tc .vmem S1x256 .f32 := Memref.whole cc1_stg14_0
/-- Of the first scale. -/
abbrev g15 : Memref sig .tc .vmem S1x512 .f32 := Memref.whole cc1_stg15_0
/-- Of the first shift. -/
abbrev g16 : Memref sig .tc .vmem S1x512 .f32 := Memref.whole cc1_stg16_0
/-- Of the second scale. -/
abbrev g17 : Memref sig .tc .vmem S1x256 .f32 := Memref.whole cc1_stg17_0
/-- Of the second shift. -/
abbrev g18 : Memref sig .tc .vmem S1x256 .f32 := Memref.whole cc1_stg18_0
/-- Of the last scale. -/
abbrev g19 : Memref sig .tc .vmem S1x128 .f32 := Memref.whole cc1_stg19_0
/-- Of the last shift. -/
abbrev g20 : Memref sig .tc .vmem S1x128 .f32 := Memref.whole cc1_stg20_0
/-- Of the result. -/
abbrev g21 : Memref sig .tc .vmem S4096x256 .f32 := Memref.whole cc1_stg21_0

/-- Two zeros, written out. -/
theorem zero2 : (![0, 0] : Fin 2 → ℕ) = fun _ => 0 := by funext a; fin_cases a <;> rfl

/-! A load of a whole staging buffer gives the buffer, and the one store leaves what it stores. -/

section
omit [FloatOps F]
/-- A load of the features. -/
theorem ld0 (x : Vec F S4096x128 .f32) :
    View.readAt (Elt F) g0.view (Rect.unit ![0, 0] S4096x128.size inb_S4096x128_S4096x128_0_0).toLoadRect x = x :=
  Memref.readAt_unit_zero (Elt F) cc1_stg0_0 zero2 _ x
/-- A load of the users' rows. -/
theorem ld1 (x : Vec F S32x4096 .f32) :
    View.readAt (Elt F) g1.view (Rect.unit ![0, 0] S32x4096.size inb_S32x4096_S32x4096_0_0).toLoadRect x = x :=
  Memref.readAt_unit_zero (Elt F) cc1_stg1_0 zero2 _ x
/-- A load of the items' rows. -/
theorem ld2 (x : Vec F S32x4096 .f32) :
    View.readAt (Elt F) g2.view (Rect.unit ![0, 0] S32x4096.size inb_S32x4096_S32x4096_0_0).toLoadRect x = x :=
  Memref.readAt_unit_zero (Elt F) cc1_stg2_0 zero2 _ x
/-- A load of the categories' rows. -/
theorem ld3 (x : Vec F S16x4096 .f32) :
    View.readAt (Elt F) g3.view (Rect.unit ![0, 0] S16x4096.size inb_S16x4096_S16x4096_0_0).toLoadRect x = x :=
  Memref.readAt_unit_zero (Elt F) cc1_stg3_0 zero2 _ x
/-- A load of the features' weights. -/
theorem ld4 (x : Vec F S128x512 .f32) :
    View.readAt (Elt F) g4.view (Rect.unit ![0, 0] S128x512.size inb_S128x512_S128x512_0_0).toLoadRect x = x :=
  Memref.readAt_unit_zero (Elt F) cc1_stg4_0 zero2 _ x
/-- A load of the users' weights. -/
theorem ld5 (x : Vec F S32x512 .f32) :
    View.readAt (Elt F) g5.view (Rect.unit ![0, 0] S32x512.size inb_S32x512_S32x512_0_0).toLoadRect x = x :=
  Memref.readAt_unit_zero (Elt F) cc1_stg5_0 zero2 _ x
/-- A load of the items' weights. -/
theorem ld6 (x : Vec F S32x512 .f32) :
    View.readAt (Elt F) g6.view (Rect.unit ![0, 0] S32x512.size inb_S32x512_S32x512_0_0).toLoadRect x = x :=
  Memref.readAt_unit_zero (Elt F) cc1_stg6_0 zero2 _ x
/-- A load of the categories' weights. -/
theorem ld7 (x : Vec F S16x512 .f32) :
    View.readAt (Elt F) g7.view (Rect.unit ![0, 0] S16x512.size inb_S16x512_S16x512_0_0).toLoadRect x = x :=
  Memref.readAt_unit_zero (Elt F) cc1_stg7_0 zero2 _ x
/-- A load of the first bias. -/
theorem ld8 (x : Vec F S1x512 .f32) :
    View.readAt (Elt F) g8.view (Rect.unit ![0, 0] S1x512.size inb_S1x512_S1x512_0_0).toLoadRect x = x :=
  Memref.readAt_unit_zero (Elt F) cc1_stg8_0 zero2 _ x
/-- A load of the second weights. -/
theorem ld9 (x : Vec F S512x256 .f32) :
    View.readAt (Elt F) g9.view (Rect.unit ![0, 0] S512x256.size inb_S512x256_S512x256_0_0).toLoadRect x = x :=
  Memref.readAt_unit_zero (Elt F) cc1_stg9_0 zero2 _ x
/-- A load of the second bias. -/
theorem ld10 (x : Vec F S1x256 .f32) :
    View.readAt (Elt F) g10.view (Rect.unit ![0, 0] S1x256.size inb_S1x256_S1x256_0_0).toLoadRect x = x :=
  Memref.readAt_unit_zero (Elt F) cc1_stg10_0 zero2 _ x
/-- A load of the third weights. -/
theorem ld11 (x : Vec F S256x128 .f32) :
    View.readAt (Elt F) g11.view (Rect.unit ![0, 0] S256x128.size inb_S256x128_S256x128_0_0).toLoadRect x = x :=
  Memref.readAt_unit_zero (Elt F) cc1_stg11_0 zero2 _ x
/-- A load of the third bias. -/
theorem ld12 (x : Vec F S1x128 .f32) :
    View.readAt (Elt F) g12.view (Rect.unit ![0, 0] S1x128.size inb_S1x128_S1x128_0_0).toLoadRect x = x :=
  Memref.readAt_unit_zero (Elt F) cc1_stg12_0 zero2 _ x
/-- A load of the last weights. -/
theorem ld13 (x : Vec F S128x256 .f32) :
    View.readAt (Elt F) g13.view (Rect.unit ![0, 0] S128x256.size inb_S128x256_S128x256_0_0).toLoadRect x = x :=
  Memref.readAt_unit_zero (Elt F) cc1_stg13_0 zero2 _ x
/-- A load of the last bias. -/
theorem ld14 (x : Vec F S1x256 .f32) :
    View.readAt (Elt F) g14.view (Rect.unit ![0, 0] S1x256.size inb_S1x256_S1x256_0_0).toLoadRect x = x :=
  Memref.readAt_unit_zero (Elt F) cc1_stg14_0 zero2 _ x
/-- A load of the first scale. -/
theorem ld15 (x : Vec F S1x512 .f32) :
    View.readAt (Elt F) g15.view (Rect.unit ![0, 0] S1x512.size inb_S1x512_S1x512_0_0).toLoadRect x = x :=
  Memref.readAt_unit_zero (Elt F) cc1_stg15_0 zero2 _ x
/-- A load of the first shift. -/
theorem ld16 (x : Vec F S1x512 .f32) :
    View.readAt (Elt F) g16.view (Rect.unit ![0, 0] S1x512.size inb_S1x512_S1x512_0_0).toLoadRect x = x :=
  Memref.readAt_unit_zero (Elt F) cc1_stg16_0 zero2 _ x
/-- A load of the second scale. -/
theorem ld17 (x : Vec F S1x256 .f32) :
    View.readAt (Elt F) g17.view (Rect.unit ![0, 0] S1x256.size inb_S1x256_S1x256_0_0).toLoadRect x = x :=
  Memref.readAt_unit_zero (Elt F) cc1_stg17_0 zero2 _ x
/-- A load of the second shift. -/
theorem ld18 (x : Vec F S1x256 .f32) :
    View.readAt (Elt F) g18.view (Rect.unit ![0, 0] S1x256.size inb_S1x256_S1x256_0_0).toLoadRect x = x :=
  Memref.readAt_unit_zero (Elt F) cc1_stg18_0 zero2 _ x
/-- A load of the last scale. -/
theorem ld19 (x : Vec F S1x128 .f32) :
    View.readAt (Elt F) g19.view (Rect.unit ![0, 0] S1x128.size inb_S1x128_S1x128_0_0).toLoadRect x = x :=
  Memref.readAt_unit_zero (Elt F) cc1_stg19_0 zero2 _ x
/-- A load of the last shift. -/
theorem ld20 (x : Vec F S1x128 .f32) :
    View.readAt (Elt F) g20.view (Rect.unit ![0, 0] S1x128.size inb_S1x128_S1x128_0_0).toLoadRect x = x :=
  Memref.readAt_unit_zero (Elt F) cc1_stg20_0 zero2 _ x

/-- A buffer written once, whole, holds what was written. -/
theorem st_whole {κ : Kind} (b : Ref sig κ) {off : Fin b.ty.shape.rank → Nat} (h : off = fun _ => 0)
    (inb : ∀ a, off a + b.ty.shape.size a ≤ b.ty.shape.size a) (x w : b.ty.Contents (Elt F)) :
    (Memref.whole b).view.writes (Elt F) x [⟨Rect.unit off b.ty.shape.size inb, w⟩] = w := by
  rw [View.writes_singleton]; exact Memref.write_access_unit_zero_univ (Elt F) b h inb x w

/-- So does the result's staging buffer. -/
theorem st21 (x w : Vec F S4096x256 .f32) :
    g21.view.writes (Elt F) x [⟨Rect.unit ![0, 0] S4096x256.size inb_S4096x256_S4096x256_0_0, w⟩] = w :=
  st_whole cc1_stg21_0 zero2 inb_S4096x256_S4096x256_0_0 x w
end

/-- What the kernel computes from its twenty-one operands. -/
def mlp (x0 : Vec F S4096x128 .f32) (x1 : Vec F S32x4096 .f32) (x2 : Vec F S32x4096 .f32) (x3 : Vec F S16x4096 .f32) (x4 : Vec F S128x512 .f32) (x5 : Vec F S32x512 .f32) (x6 : Vec F S32x512 .f32) (x7 : Vec F S16x512 .f32) (x8 : Vec F S1x512 .f32) (x9 : Vec F S512x256 .f32) (x10 : Vec F S1x256 .f32) (x11 : Vec F S256x128 .f32) (x12 : Vec F S1x128 .f32) (x13 : Vec F S128x256 .f32) (x14 : Vec F S1x256 .f32) (x15 : Vec F S1x512 .f32) (x16 : Vec F S1x512 .f32) (x17 : Vec F S1x256 .f32) (x18 : Vec F S1x256 .f32) (x19 : Vec F S1x128 .f32) (x20 : Vec F S1x128 .f32) :
    Vec F S4096x256 .f32 :=
  let h1 := k1_pay2 x0 x4 x1 x5 x2 x6 x3 x7 x8
  let s1 := k1_pay3 x15
  let h2 := k1_pay4 h1 s1 x16 x9 x10
  let s2 := k1_pay5 x17
  let b2 := k1_pay6 x18
  let t2 := k1_pay8 h1 s1 x16 x9 x10
  let h3 := k1_pay10 h2 s2 b2 (k1_pay7 (F := F)) t2 (k1_pay9 (F := F)) x11 x12
  let m3 := k1_pay14 h2 s2 b2 (k1_pay7 (F := F)) t2 (k1_pay9 (F := F)) x11 x12
  let w3 := k1_pay15 h2 s2 b2 (k1_pay7 (F := F)) t2 (k1_pay9 (F := F)) x11 x12
  k1_pay1 h3 (k1_pay11 x19) (k1_pay12 x20) m3 w3 (Scalar.ofBits .f32 0x3727C5AC#32) x13 x14

/-- The body's run: from the staging buffers at the operands, the result's buffer at what the kernel computes. -/
theorem body_run (d : Dev nD) (x0 : Vec F S4096x128 .f32) (x1 : Vec F S32x4096 .f32) (x2 : Vec F S32x4096 .f32) (x3 : Vec F S16x4096 .f32) (x4 : Vec F S128x512 .f32) (x5 : Vec F S32x512 .f32) (x6 : Vec F S32x512 .f32) (x7 : Vec F S16x512 .f32) (x8 : Vec F S1x512 .f32) (x9 : Vec F S512x256 .f32) (x10 : Vec F S1x256 .f32) (x11 : Vec F S256x128 .f32) (x12 : Vec F S1x128 .f32) (x13 : Vec F S128x256 .f32) (x14 : Vec F S1x256 .f32) (x15 : Vec F S1x512 .f32) (x16 : Vec F S1x512 .f32) (x17 : Vec F S1x256 .f32) (x18 : Vec F S1x256 .f32) (x19 : Vec F S1x128 .f32) (x20 : Vec F S1x128 .f32) (y : Vec F S4096x256 .f32) (Q : PUnit → sProp 𝕄) :
    iprop((g0.view.loc (T d) ↦{fullShare} x0)
        ∗ (g1.view.loc (T d) ↦{fullShare} x1)
        ∗ (g2.view.loc (T d) ↦{fullShare} x2)
        ∗ (g3.view.loc (T d) ↦{fullShare} x3)
        ∗ (g4.view.loc (T d) ↦{fullShare} x4)
        ∗ (g5.view.loc (T d) ↦{fullShare} x5)
        ∗ (g6.view.loc (T d) ↦{fullShare} x6)
        ∗ (g7.view.loc (T d) ↦{fullShare} x7)
        ∗ (g8.view.loc (T d) ↦{fullShare} x8)
        ∗ (g9.view.loc (T d) ↦{fullShare} x9)
        ∗ (g10.view.loc (T d) ↦{fullShare} x10)
        ∗ (g11.view.loc (T d) ↦{fullShare} x11)
        ∗ (g12.view.loc (T d) ↦{fullShare} x12)
        ∗ (g13.view.loc (T d) ↦{fullShare} x13)
        ∗ (g14.view.loc (T d) ↦{fullShare} x14)
        ∗ (g15.view.loc (T d) ↦{fullShare} x15)
        ∗ (g16.view.loc (T d) ↦{fullShare} x16)
        ∗ (g17.view.loc (T d) ↦{fullShare} x17)
        ∗ (g18.view.loc (T d) ↦{fullShare} x18)
        ∗ (g19.view.loc (T d) ↦{fullShare} x19)
        ∗ (g20.view.loc (T d) ↦{fullShare} x20)
        ∗ (g21.view.loc (T d) ↦{fullShare} y)
        ∗ (iprop((g0.view.loc (T d) ↦{fullShare} x0)
        ∗ (g1.view.loc (T d) ↦{fullShare} x1)
        ∗ (g2.view.loc (T d) ↦{fullShare} x2)
        ∗ (g3.view.loc (T d) ↦{fullShare} x3)
        ∗ (g4.view.loc (T d) ↦{fullShare} x4)
        ∗ (g5.view.loc (T d) ↦{fullShare} x5)
        ∗ (g6.view.loc (T d) ↦{fullShare} x6)
        ∗ (g7.view.loc (T d) ↦{fullShare} x7)
        ∗ (g8.view.loc (T d) ↦{fullShare} x8)
        ∗ (g9.view.loc (T d) ↦{fullShare} x9)
        ∗ (g10.view.loc (T d) ↦{fullShare} x10)
        ∗ (g11.view.loc (T d) ↦{fullShare} x11)
        ∗ (g12.view.loc (T d) ↦{fullShare} x12)
        ∗ (g13.view.loc (T d) ↦{fullShare} x13)
        ∗ (g14.view.loc (T d) ↦{fullShare} x14)
        ∗ (g15.view.loc (T d) ↦{fullShare} x15)
        ∗ (g16.view.loc (T d) ↦{fullShare} x16)
        ∗ (g17.view.loc (T d) ↦{fullShare} x17)
        ∗ (g18.view.loc (T d) ↦{fullShare} x18)
        ∗ (g19.view.loc (T d) ↦{fullShare} x19)
        ∗ (g20.view.loc (T d) ↦{fullShare} x20)
        ∗ (g21.view.loc (T d) ↦{fullShare} mlp x0 x1 x2 x3 x4 x5 x6 x7 x8 x9 x10 x11 x12 x13 x14 x15 x16 x17 x18 x19 x20)) -∗ Q ⟨⟩))
      ⊢ wp frame (wpE (defs₀ (F := F)) 𝒱₀ (T d) none) Set.univ (cc1__mlp_body g0 (Memref.isWhole_whole _) g1 (Memref.isWhole_whole _) g2 (Memref.isWhole_whole _) g3 (Memref.isWhole_whole _) g4 (Memref.isWhole_whole _) g5 (Memref.isWhole_whole _) g6 (Memref.isWhole_whole _) g7 (Memref.isWhole_whole _) g8 (Memref.isWhole_whole _) g9 (Memref.isWhole_whole _) g10 (Memref.isWhole_whole _) g11 (Memref.isWhole_whole _) g12 (Memref.isWhole_whole _) g13 (Memref.isWhole_whole _) g14 (Memref.isWhole_whole _) g15 (Memref.isWhole_whole _) g16 (Memref.isWhole_whole _) g17 (Memref.isWhole_whole _) g18 (Memref.isWhole_whole _) g19 (Memref.isWhole_whole _) g20 (Memref.isWhole_whole _) g21 (Memref.isWhole_whole _)) Q := by
  rw [cc1__mlp_body_eq_skeleton]; unfold cc1__mlp_body_skel
  rw [k1_part1_eq_skeleton, k1_part2_eq_skeleton, k1_part3_eq_skeleton]; unfold k1_part1_skel k1_part2_skel k1_part3_skel
  iintro ⟨H0, H1, H2, H3, H4, H5, H6, H7, H8, H9, H10, H11, H12, H13, H14, H15, H16, H17, H18, H19, H20, H21, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  rw [st21, ld0, ld1, ld2, ld3, ld4, ld5, ld6, ld7, ld8, ld9, ld10, ld11, ld12, ld13, ld14, ld15, ld16, ld17, ld18, ld19, ld20]
  iexact H21

end Cert.Proof

end
-- ==== Proof.Region.lean ====
/-
  The TensorCore's kernel as a region of the program: entered with every array of the device at a valuation, left
  with the result's array at what the kernel computes from the others.
-/
module

public import proofs.«01_k».proof.Proof.Mlp
public import Idealize.ShloMosaic.Lib.Pipeline.RegionsLoop
public import Idealize.ShloMosaic.Lib.Pipeline.ValueKit.Geometry

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Window BodyObligation)

variable {F : FTy → Type}

local notation "𝕄" => MT nD τ sig (HIx 1) (Elt F) ℕ UU ℕ

variable [FloatOps F]

/-! ## A window's block is its array -/

section
omit [FloatOps F]
variable (F)
variable {F}
/-- Window 0: the features. -/
theorem blk0 (f : Vec F S4096x128 .f32) : ((cfg1.win 0).blk t1_0).view.read (Elt F) f = f := by
  funext i; show f _ = f i; congr 1; funext a; apply Fin.ext
  exact Pipeline.Window.rect_emb_val_of_index_zero (cfg1.win 0) t1_0 a rfl i
/-- Window 1: the users' rows. -/
theorem blk1 (f : Vec F S32x4096 .f32) : ((cfg1.win 1).blk t1_0).view.read (Elt F) f = f := by
  funext i; show f _ = f i; congr 1; funext a; apply Fin.ext
  exact Pipeline.Window.rect_emb_val_of_index_zero (cfg1.win 1) t1_0 a rfl i
/-- Window 2: the items' rows. -/
theorem blk2 (f : Vec F S32x4096 .f32) : ((cfg1.win 2).blk t1_0).view.read (Elt F) f = f := by
  funext i; show f _ = f i; congr 1; funext a; apply Fin.ext
  exact Pipeline.Window.rect_emb_val_of_index_zero (cfg1.win 2) t1_0 a rfl i
/-- Window 3: the categories' rows. -/
theorem blk3 (f : Vec F S16x4096 .f32) : ((cfg1.win 3).blk t1_0).view.read (Elt F) f = f := by
  funext i; show f _ = f i; congr 1; funext a; apply Fin.ext
  exact Pipeline.Window.rect_emb_val_of_index_zero (cfg1.win 3) t1_0 a rfl i
/-- Window 4: the features' weights. -/
theorem blk4 (f : Vec F S128x512 .f32) : ((cfg1.win 4).blk t1_0).view.read (Elt F) f = f := by
  funext i; show f _ = f i; congr 1; funext a; apply Fin.ext
  exact Pipeline.Window.rect_emb_val_of_index_zero (cfg1.win 4) t1_0 a rfl i
/-- Window 5: the users' weights. -/
theorem blk5 (f : Vec F S32x512 .f32) : ((cfg1.win 5).blk t1_0).view.read (Elt F) f = f := by
  funext i; show f _ = f i; congr 1; funext a; apply Fin.ext
  exact Pipeline.Window.rect_emb_val_of_index_zero (cfg1.win 5) t1_0 a rfl i
/-- Window 6: the items' weights. -/
theorem blk6 (f : Vec F S32x512 .f32) : ((cfg1.win 6).blk t1_0).view.read (Elt F) f = f := by
  funext i; show f _ = f i; congr 1; funext a; apply Fin.ext
  exact Pipeline.Window.rect_emb_val_of_index_zero (cfg1.win 6) t1_0 a rfl i
/-- Window 7: the categories' weights. -/
theorem blk7 (f : Vec F S16x512 .f32) : ((cfg1.win 7).blk t1_0).view.read (Elt F) f = f := by
  funext i; show f _ = f i; congr 1; funext a; apply Fin.ext
  exact Pipeline.Window.rect_emb_val_of_index_zero (cfg1.win 7) t1_0 a rfl i
/-- Window 8: the first bias. -/
theorem blk8 (f : Vec F S1x512 .f32) : ((cfg1.win 8).blk t1_0).view.read (Elt F) f = f := by
  funext i; show f _ = f i; congr 1; funext a; apply Fin.ext
  exact Pipeline.Window.rect_emb_val_of_index_zero (cfg1.win 8) t1_0 a rfl i
/-- Window 9: the second weights. -/
theorem blk9 (f : Vec F S512x256 .f32) : ((cfg1.win 9).blk t1_0).view.read (Elt F) f = f := by
  funext i; show f _ = f i; congr 1; funext a; apply Fin.ext
  exact Pipeline.Window.rect_emb_val_of_index_zero (cfg1.win 9) t1_0 a rfl i
/-- Window 10: the second bias. -/
theorem blk10 (f : Vec F S1x256 .f32) : ((cfg1.win 10).blk t1_0).view.read (Elt F) f = f := by
  funext i; show f _ = f i; congr 1; funext a; apply Fin.ext
  exact Pipeline.Window.rect_emb_val_of_index_zero (cfg1.win 10) t1_0 a rfl i
/-- Window 11: the third weights. -/
theorem blk11 (f : Vec F S256x128 .f32) : ((cfg1.win 11).blk t1_0).view.read (Elt F) f = f := by
  funext i; show f _ = f i; congr 1; funext a; apply Fin.ext
  exact Pipeline.Window.rect_emb_val_of_index_zero (cfg1.win 11) t1_0 a rfl i
/-- Window 12: the third bias. -/
theorem blk12 (f : Vec F S1x128 .f32) : ((cfg1.win 12).blk t1_0).view.read (Elt F) f = f := by
  funext i; show f _ = f i; congr 1; funext a; apply Fin.ext
  exact Pipeline.Window.rect_emb_val_of_index_zero (cfg1.win 12) t1_0 a rfl i
/-- Window 13: the last weights. -/
theorem blk13 (f : Vec F S128x256 .f32) : ((cfg1.win 13).blk t1_0).view.read (Elt F) f = f := by
  funext i; show f _ = f i; congr 1; funext a; apply Fin.ext
  exact Pipeline.Window.rect_emb_val_of_index_zero (cfg1.win 13) t1_0 a rfl i
/-- Window 14: the last bias. -/
theorem blk14 (f : Vec F S1x256 .f32) : ((cfg1.win 14).blk t1_0).view.read (Elt F) f = f := by
  funext i; show f _ = f i; congr 1; funext a; apply Fin.ext
  exact Pipeline.Window.rect_emb_val_of_index_zero (cfg1.win 14) t1_0 a rfl i
/-- Window 15: the first scale. -/
theorem blk15 (f : Vec F S1x512 .f32) : ((cfg1.win 15).blk t1_0).view.read (Elt F) f = f := by
  funext i; show f _ = f i; congr 1; funext a; apply Fin.ext
  exact Pipeline.Window.rect_emb_val_of_index_zero (cfg1.win 15) t1_0 a rfl i
/-- Window 16: the first shift. -/
theorem blk16 (f : Vec F S1x512 .f32) : ((cfg1.win 16).blk t1_0).view.read (Elt F) f = f := by
  funext i; show f _ = f i; congr 1; funext a; apply Fin.ext
  exact Pipeline.Window.rect_emb_val_of_index_zero (cfg1.win 16) t1_0 a rfl i
/-- Window 17: the second scale. -/
theorem blk17 (f : Vec F S1x256 .f32) : ((cfg1.win 17).blk t1_0).view.read (Elt F) f = f := by
  funext i; show f _ = f i; congr 1; funext a; apply Fin.ext
  exact Pipeline.Window.rect_emb_val_of_index_zero (cfg1.win 17) t1_0 a rfl i
/-- Window 18: the second shift. -/
theorem blk18 (f : Vec F S1x256 .f32) : ((cfg1.win 18).blk t1_0).view.read (Elt F) f = f := by
  funext i; show f _ = f i; congr 1; funext a; apply Fin.ext
  exact Pipeline.Window.rect_emb_val_of_index_zero (cfg1.win 18) t1_0 a rfl i
/-- Window 19: the last scale. -/
theorem blk19 (f : Vec F S1x128 .f32) : ((cfg1.win 19).blk t1_0).view.read (Elt F) f = f := by
  funext i; show f _ = f i; congr 1; funext a; apply Fin.ext
  exact Pipeline.Window.rect_emb_val_of_index_zero (cfg1.win 19) t1_0 a rfl i
/-- Window 20: the last shift. -/
theorem blk20 (f : Vec F S1x128 .f32) : ((cfg1.win 20).blk t1_0).view.read (Elt F) f = f := by
  funext i; show f _ = f i; congr 1; funext a; apply Fin.ext
  exact Pipeline.Window.rect_emb_val_of_index_zero (cfg1.win 20) t1_0 a rfl i
end

/-! ## The proof data -/

variable (V : (c : Dev nD) → (b : Ref sig .tc) → Buf (Elt F) ((c : Thread nD τ).loc b))

/-- What the kernel leaves in its result. -/
def mlpOut (c : Dev nD) : Vec F S4096x256 .f32 :=
  mlp (V c main_arg0) (V c main_v6_0) (V c main_v6_1) (V c main_v6_2) (V c main_v7) (V c main_v8) (V c main_v9) (V c main_v10) (V c main_v11) (V c main_arg9) (V c main_v12) (V c main_arg11) (V c main_v13) (V c main_arg13) (V c main_v14) (V c main_v15) (V c main_v16) (V c main_v17) (V c main_v18) (V c main_v19) (V c main_v20)

/-- The proof data of the region entered at the valuation `V`. Nothing is owed; of the waits recorded before, their
    levels are kept. -/
def dat (c : Dev nD) : Dat τ (Elt F) (HIx 1) ℕ UU ℕ cfg1 c where
  A w := V c (Pipeline.arrRef spec1 w)
  after w _ := match w with
    | ⟨0, _⟩ => V c main_arg0
    | ⟨1, _⟩ => V c main_v6_0
    | ⟨2, _⟩ => V c main_v6_1
    | ⟨3, _⟩ => V c main_v6_2
    | ⟨4, _⟩ => V c main_v7
    | ⟨5, _⟩ => V c main_v8
    | ⟨6, _⟩ => V c main_v9
    | ⟨7, _⟩ => V c main_v10
    | ⟨8, _⟩ => V c main_v11
    | ⟨9, _⟩ => V c main_arg9
    | ⟨10, _⟩ => V c main_v12
    | ⟨11, _⟩ => V c main_arg11
    | ⟨12, _⟩ => V c main_v13
    | ⟨13, _⟩ => V c main_arg13
    | ⟨14, _⟩ => V c main_v14
    | ⟨15, _⟩ => V c main_v15
    | ⟨16, _⟩ => V c main_v16
    | ⟨17, _⟩ => V c main_v17
    | ⟨18, _⟩ => V c main_v18
    | ⟨19, _⟩ => V c main_v19
    | ⟨20, _⟩ => V c main_v20
    | ⟨21, _⟩ => mlpOut V c
    | ⟨_ + 22, h⟩ => absurd h (Nat.not_lt.2 (Nat.le_add_left _ _))
  Φ _ := Pipeline.scopedRest (Ix := HIx 1) (Name := ℕ) (U := UU) (Lvl := ℕ) (Val := Elt F) spec1 c
  q _ := fullShare
  owed _ := 0
  recorded _ := {p | (K (F := F)).lev (T c, p.1) p.2 ≤ 8}

/-- The program's prefetched tables: none. -/
abbrev adm : (p : Fin 1) → (pcfgs (F := F) p).Adm := fun p => (cfgs p).toPCfg_adm

/-- The same, as the family over the program's one pipeline. -/
def pdats : (p : Fin 1) → (c : Dev nD) → Dat τ (Elt F) (HIx 1) ℕ UU ℕ (Pipeline.pin (pcfgs (F := F)) adm p) c :=
  fun _ c => dat V c

/-- What the body finds staged of the features is the array it comes from. -/
theorem before0 (c : Dev nD) (e) : (dat V c).before 0 t1_0 e = V c main_arg0 := by
  unfold Dat.before; rw [if_pos (fetch1_0 t1_0)];
  exact (show _ = ((cfg1.win 0).blk t1_0).view.read (Elt F) (V c main_arg0) from rfl).trans (blk0 _)
/-- What the body finds staged of the users' rows is the array it comes from. -/
theorem before1 (c : Dev nD) (e) : (dat V c).before 1 t1_0 e = V c main_v6_0 := by
  unfold Dat.before; rw [if_pos (fetch1_1 t1_0)];
  exact (show _ = ((cfg1.win 1).blk t1_0).view.read (Elt F) (V c main_v6_0) from rfl).trans (blk1 _)
/-- What the body finds staged of the items' rows is the array it comes from. -/
theorem before2 (c : Dev nD) (e) : (dat V c).before 2 t1_0 e = V c main_v6_1 := by
  unfold Dat.before; rw [if_pos (fetch1_2 t1_0)];
  exact (show _ = ((cfg1.win 2).blk t1_0).view.read (Elt F) (V c main_v6_1) from rfl).trans (blk2 _)
/-- What the body finds staged of the categories' rows is the array it comes from. -/
theorem before3 (c : Dev nD) (e) : (dat V c).before 3 t1_0 e = V c main_v6_2 := by
  unfold Dat.before; rw [if_pos (fetch1_3 t1_0)];
  exact (show _ = ((cfg1.win 3).blk t1_0).view.read (Elt F) (V c main_v6_2) from rfl).trans (blk3 _)
/-- What the body finds staged of the features' weights is the array it comes from. -/
theorem before4 (c : Dev nD) (e) : (dat V c).before 4 t1_0 e = V c main_v7 := by
  unfold Dat.before; rw [if_pos (fetch1_4 t1_0)];
  exact (show _ = ((cfg1.win 4).blk t1_0).view.read (Elt F) (V c main_v7) from rfl).trans (blk4 _)
/-- What the body finds staged of the users' weights is the array it comes from. -/
theorem before5 (c : Dev nD) (e) : (dat V c).before 5 t1_0 e = V c main_v8 := by
  unfold Dat.before; rw [if_pos (fetch1_5 t1_0)];
  exact (show _ = ((cfg1.win 5).blk t1_0).view.read (Elt F) (V c main_v8) from rfl).trans (blk5 _)
/-- What the body finds staged of the items' weights is the array it comes from. -/
theorem before6 (c : Dev nD) (e) : (dat V c).before 6 t1_0 e = V c main_v9 := by
  unfold Dat.before; rw [if_pos (fetch1_6 t1_0)];
  exact (show _ = ((cfg1.win 6).blk t1_0).view.read (Elt F) (V c main_v9) from rfl).trans (blk6 _)
/-- What the body finds staged of the categories' weights is the array it comes from. -/
theorem before7 (c : Dev nD) (e) : (dat V c).before 7 t1_0 e = V c main_v10 := by
  unfold Dat.before; rw [if_pos (fetch1_7 t1_0)];
  exact (show _ = ((cfg1.win 7).blk t1_0).view.read (Elt F) (V c main_v10) from rfl).trans (blk7 _)
/-- What the body finds staged of the first bias is the array it comes from. -/
theorem before8 (c : Dev nD) (e) : (dat V c).before 8 t1_0 e = V c main_v11 := by
  unfold Dat.before; rw [if_pos (fetch1_8 t1_0)];
  exact (show _ = ((cfg1.win 8).blk t1_0).view.read (Elt F) (V c main_v11) from rfl).trans (blk8 _)
/-- What the body finds staged of the second weights is the array it comes from. -/
theorem before9 (c : Dev nD) (e) : (dat V c).before 9 t1_0 e = V c main_arg9 := by
  unfold Dat.before; rw [if_pos (fetch1_9 t1_0)];
  exact (show _ = ((cfg1.win 9).blk t1_0).view.read (Elt F) (V c main_arg9) from rfl).trans (blk9 _)
/-- What the body finds staged of the second bias is the array it comes from. -/
theorem before10 (c : Dev nD) (e) : (dat V c).before 10 t1_0 e = V c main_v12 := by
  unfold Dat.before; rw [if_pos (fetch1_10 t1_0)];
  exact (show _ = ((cfg1.win 10).blk t1_0).view.read (Elt F) (V c main_v12) from rfl).trans (blk10 _)
/-- What the body finds staged of the third weights is the array it comes from. -/
theorem before11 (c : Dev nD) (e) : (dat V c).before 11 t1_0 e = V c main_arg11 := by
  unfold Dat.before; rw [if_pos (fetch1_11 t1_0)];
  exact (show _ = ((cfg1.win 11).blk t1_0).view.read (Elt F) (V c main_arg11) from rfl).trans (blk11 _)
/-- What the body finds staged of the third bias is the array it comes from. -/
theorem before12 (c : Dev nD) (e) : (dat V c).before 12 t1_0 e = V c main_v13 := by
  unfold Dat.before; rw [if_pos (fetch1_12 t1_0)];
  exact (show _ = ((cfg1.win 12).blk t1_0).view.read (Elt F) (V c main_v13) from rfl).trans (blk12 _)
/-- What the body finds staged of the last weights is the array it comes from. -/
theorem before13 (c : Dev nD) (e) : (dat V c).before 13 t1_0 e = V c main_arg13 := by
  unfold Dat.before; rw [if_pos (fetch1_13 t1_0)];
  exact (show _ = ((cfg1.win 13).blk t1_0).view.read (Elt F) (V c main_arg13) from rfl).trans (blk13 _)
/-- What the body finds staged of the last bias is the array it comes from. -/
theorem before14 (c : Dev nD) (e) : (dat V c).before 14 t1_0 e = V c main_v14 := by
  unfold Dat.before; rw [if_pos (fetch1_14 t1_0)];
  exact (show _ = ((cfg1.win 14).blk t1_0).view.read (Elt F) (V c main_v14) from rfl).trans (blk14 _)
/-- What the body finds staged of the first scale is the array it comes from. -/
theorem before15 (c : Dev nD) (e) : (dat V c).before 15 t1_0 e = V c main_v15 := by
  unfold Dat.before; rw [if_pos (fetch1_15 t1_0)];
  exact (show _ = ((cfg1.win 15).blk t1_0).view.read (Elt F) (V c main_v15) from rfl).trans (blk15 _)
/-- What the body finds staged of the first shift is the array it comes from. -/
theorem before16 (c : Dev nD) (e) : (dat V c).before 16 t1_0 e = V c main_v16 := by
  unfold Dat.before; rw [if_pos (fetch1_16 t1_0)];
  exact (show _ = ((cfg1.win 16).blk t1_0).view.read (Elt F) (V c main_v16) from rfl).trans (blk16 _)
/-- What the body finds staged of the second scale is the array it comes from. -/
theorem before17 (c : Dev nD) (e) : (dat V c).before 17 t1_0 e = V c main_v17 := by
  unfold Dat.before; rw [if_pos (fetch1_17 t1_0)];
  exact (show _ = ((cfg1.win 17).blk t1_0).view.read (Elt F) (V c main_v17) from rfl).trans (blk17 _)
/-- What the body finds staged of the second shift is the array it comes from. -/
theorem before18 (c : Dev nD) (e) : (dat V c).before 18 t1_0 e = V c main_v18 := by
  unfold Dat.before; rw [if_pos (fetch1_18 t1_0)];
  exact (show _ = ((cfg1.win 18).blk t1_0).view.read (Elt F) (V c main_v18) from rfl).trans (blk18 _)
/-- What the body finds staged of the last scale is the array it comes from. -/
theorem before19 (c : Dev nD) (e) : (dat V c).before 19 t1_0 e = V c main_v19 := by
  unfold Dat.before; rw [if_pos (fetch1_19 t1_0)];
  exact (show _ = ((cfg1.win 19).blk t1_0).view.read (Elt F) (V c main_v19) from rfl).trans (blk19 _)
/-- What the body finds staged of the last shift is the array it comes from. -/
theorem before20 (c : Dev nD) (e) : (dat V c).before 20 t1_0 e = V c main_v20 := by
  unfold Dat.before; rw [if_pos (fetch1_20 t1_0)];
  exact (show _ = ((cfg1.win 20).blk t1_0).view.read (Elt F) (V c main_v20) from rfl).trans (blk20 _)

set_option maxHeartbeats 4000000 in
/-- The body's obligation: the staged arrays in, the result's buffer at what the kernel computes out. -/
theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.succ = (dat V c).Φ t1_0.castSucc from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, -, H21⟩⟩
  rw [before0] at hf0; subst hf0
  rw [before1] at hf1; subst hf1
  rw [before2] at hf2; subst hf2
  rw [before3] at hf3; subst hf3
  rw [before4] at hf4; subst hf4
  rw [before5] at hf5; subst hf5
  rw [before6] at hf6; subst hf6
  rw [before7] at hf7; subst hf7
  rw [before8] at hf8; subst hf8
  rw [before9] at hf9; subst hf9
  rw [before10] at hf10; subst hf10
  rw [before11] at hf11; subst hf11
  rw [before12] at hf12; subst hf12
  rw [before13] at hf13; subst hf13
  rw [before14] at hf14; subst hf14
  rw [before15] at hf15; subst hf15
  rw [before16] at hf16; subst hf16
  rw [before17] at hf17; subst hf17
  rw [before18] at hf18; subst hf18
  rw [before19] at hf19; subst hf19
  rw [before20] at hf20; subst hf20
  iapply (body_run c (V c main_arg0) (V c main_v6_0) (V c main_v6_1) (V c main_v6_2) (V c main_v7) (V c main_v8) (V c main_v9) (V c main_v10) (V c main_v11) (V c main_arg9) (V c main_v12) (V c main_arg11) (V c main_v13) (V c main_arg13) (V c main_v14) (V c main_v15) (V c main_v16) (V c main_v17) (V c main_v18) (V c main_v19) (V c main_v20) f21 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H0, H1, H2, H3, H4, H5, H6, H7, H8, H9, H10, H11, H12, H13, H14, H15, H16, H17, H18, H19, H20, H21⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  isplitl [H8]; · iexists _; isplitr; swap; (· iexact H8); ipureintro; dsimp only [dat]
  isplitl [H9]; · iexists _; isplitr; swap; (· iexact H9); ipureintro; dsimp only [dat]
  isplitl [H10]; · iexists _; isplitr; swap; (· iexact H10); ipureintro; dsimp only [dat]
  isplitl [H11]; · iexists _; isplitr; swap; (· iexact H11); ipureintro; dsimp only [dat]
  isplitl [H12]; · iexists _; isplitr; swap; (· iexact H12); ipureintro; dsimp only [dat]
  isplitl [H13]; · iexists _; isplitr; swap; (· iexact H13); ipureintro; dsimp only [dat]
  isplitl [H14]; · iexists _; isplitr; swap; (· iexact H14); ipureintro; dsimp only [dat]
  isplitl [H15]; · iexists _; isplitr; swap; (· iexact H15); ipureintro; dsimp only [dat]
  isplitl [H16]; · iexists _; isplitr; swap; (· iexact H16); ipureintro; dsimp only [dat]
  isplitl [H17]; · iexists _; isplitr; swap; (· iexact H17); ipureintro; dsimp only [dat]
  isplitl [H18]; · iexists _; isplitr; swap; (· iexact H18); ipureintro; dsimp only [dat]
  isplitl [H19]; · iexists _; isplitr; swap; (· iexact H19); ipureintro; dsimp only [dat]
  isplitl [H20]; · iexists _; isplitr; swap; (· iexact H20); ipureintro; dsimp only [dat]
  iexists _; isplitr; swap; (· iexact H21); ipureintro; exact rfl

/-! ## The region over the program's arrays -/

/-- The one result is written back once, whole. -/
theorem whole21 : (cfg1.win 21).WholeAt t1_0 := by decide +kernel

/-- The result's array after the region. -/
theorem arr21 (c : Dev nD) : (dat V c).arrAt 21 cfg1.N = mlpOut V c :=
  Dat.arrAt_eq_of_after_last (dat V c) 21 t1_0 whole21 (mlpOut V c) fun _ => rfl

variable (Vp : (c : Dev nD) → (b : Ref sig .tc) → Buf (Elt F) ((c : Thread nD τ).loc b))

/-- The waits recorded lie at the levels of the call, if those before the region do. -/
abbrev Lows (c : Dev nD) : sProp 𝕄 := iprop(∃ W, ⌜(K (F := F)).WBelow (T c) W 8⌝ ∗ owes (T c) (0 : CellTallies nD τ sig (HIx 1)) W)

set_option backward.isDefEq.respectTransparency.types false in
set_option maxHeartbeats 1000000 in
/-- The region: from every array of the device at `V`, to every array at `Vp`, which is `V` but for the result, there
    what the kernel computes. -/
def reg (hout : ∀ c, Vp c main_v21 = mlpOut V c) (hVp_ne : ∀ c (b : Ref sig .tc), b ≠ main_v21 → Vp c b = V c b) :
    Pipeline.RegionSeg (pcfgs (F := F)) adm (pdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ Lows c)
  post c := iprop(unscopedBufs c (Vp c) ∗ Lows c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_arg0 (by decide)).symm
        · exact ((pdats V 0 c).arrAt_in 1 rfl _).trans (hVp_ne c main_v6_0 (by decide)).symm
        · exact ((pdats V 0 c).arrAt_in 2 rfl _).trans (hVp_ne c main_v6_1 (by decide)).symm
        · exact ((pdats V 0 c).arrAt_in 3 rfl _).trans (hVp_ne c main_v6_2 (by decide)).symm
        · exact ((pdats V 0 c).arrAt_in 4 rfl _).trans (hVp_ne c main_v7 (by decide)).symm
        · exact ((pdats V 0 c).arrAt_in 5 rfl _).trans (hVp_ne c main_v8 (by decide)).symm
        · exact ((pdats V 0 c).arrAt_in 6 rfl _).trans (hVp_ne c main_v9 (by decide)).symm
        · exact ((pdats V 0 c).arrAt_in 7 rfl _).trans (hVp_ne c main_v10 (by decide)).symm
        · exact ((pdats V 0 c).arrAt_in 8 rfl _).trans (hVp_ne c main_v11 (by decide)).symm
        · exact ((pdats V 0 c).arrAt_in 9 rfl _).trans (hVp_ne c main_arg9 (by decide)).symm
        · exact ((pdats V 0 c).arrAt_in 10 rfl _).trans (hVp_ne c main_v12 (by decide)).symm
        · exact ((pdats V 0 c).arrAt_in 11 rfl _).trans (hVp_ne c main_arg11 (by decide)).symm
        · exact ((pdats V 0 c).arrAt_in 12 rfl _).trans (hVp_ne c main_v13 (by decide)).symm
        · exact ((pdats V 0 c).arrAt_in 13 rfl _).trans (hVp_ne c main_arg13 (by decide)).symm
        · exact ((pdats V 0 c).arrAt_in 14 rfl _).trans (hVp_ne c main_v14 (by decide)).symm
        · exact ((pdats V 0 c).arrAt_in 15 rfl _).trans (hVp_ne c main_v15 (by decide)).symm
        · exact ((pdats V 0 c).arrAt_in 16 rfl _).trans (hVp_ne c main_v16 (by decide)).symm
        · exact ((pdats V 0 c).arrAt_in 17 rfl _).trans (hVp_ne c main_v17 (by decide)).symm
        · exact ((pdats V 0 c).arrAt_in 18 rfl _).trans (hVp_ne c main_v18 (by decide)).symm
        · exact ((pdats V 0 c).arrAt_in 19 rfl _).trans (hVp_ne c main_v19 (by decide)).symm
        · exact ((pdats V 0 c).arrAt_in 20 rfl _).trans (hVp_ne c main_v20 (by decide)).symm
        · exact (arr21 V c).trans (hout c).symm)
      (fun b hb => hVp_ne c b fun h => hb (h ▸ Finset.mem_image.mpr ⟨21, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, h⟩
      · exact h
      · subst h; exact Nat.zero_le _
    iexact HO

end Cert.Proof

end
-- ==== Proof.Stages.lean ====
/-
  The program's run: the tables laid out, the gather, the weights laid out, the network; and what every array holds
  at its end, as one fold over the memory it starts from.
-/
module

public import proofs.«01_k».proof.Proof.Region

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (ucRefs)

variable {F : FTy → Type}

local notation "𝕄" => MT nD τ sig (HIx 1) (Elt F) ℕ UU ℕ

variable [FloatOps F]

/-! ## The host's operations, and the memory at each of the program's stages -/

/-- The three tables, transposed and in groups of eight rows. -/
abbrev ops0 : List (HloOp τ sig (Elt F)) :=
  [StableHlo.unary main_arg4 main_v0 ((transpose S32x100000 [1, 0] · transposes_S100000x32_S32x100000_1_0) : (⟨S100000x32, .f32⟩ : BufTy).Contents (Elt F) → (⟨S32x100000, .f32⟩ : BufTy).Contents (Elt F)),
   StableHlo.reshape main_v0 main_v1 (rfl : (.f32 : EltTy) = .f32) shapeCasts_S32x100000_S4x8x100000,
   StableHlo.unary main_arg5 main_v2 ((transpose S32x100000 [1, 0] · transposes_S100000x32_S32x100000_1_0) : (⟨S100000x32, .f32⟩ : BufTy).Contents (Elt F) → (⟨S32x100000, .f32⟩ : BufTy).Contents (Elt F)),
   StableHlo.reshape main_v2 main_v3 (rfl : (.f32 : EltTy) = .f32) shapeCasts_S32x100000_S4x8x100000,
   StableHlo.unary main_arg6 main_v4 ((transpose S16x1000 [1, 0] · transposes_S1000x16_S16x1000_1_0) : (⟨S1000x16, .f32⟩ : BufTy).Contents (Elt F) → (⟨S16x1000, .f32⟩ : BufTy).Contents (Elt F)),
   StableHlo.reshape main_v4 main_v5 (rfl : (.f32 : EltTy) = .f32) shapeCasts_S16x1000_S2x8x1000]

/-- The first layer's weights in four parts, and the vectors as rows. -/
abbrev ops1 : List (HloOp τ sig (Elt F)) :=
  [StableHlo.unary main_arg7 main_v7 ((extractStridedSlice S128x512 ![0, 0] · slices_S208x512_S128x512_0_0) : (⟨S208x512, .f32⟩ : BufTy).Contents (Elt F) → (⟨S128x512, .f32⟩ : BufTy).Contents (Elt F)),
   StableHlo.unary main_arg7 main_v8 ((extractStridedSlice S32x512 ![128, 0] · slices_S208x512_S32x512_128_0) : (⟨S208x512, .f32⟩ : BufTy).Contents (Elt F) → (⟨S32x512, .f32⟩ : BufTy).Contents (Elt F)),
   StableHlo.unary main_arg7 main_v9 ((extractStridedSlice S32x512 ![160, 0] · slices_S208x512_S32x512_160_0) : (⟨S208x512, .f32⟩ : BufTy).Contents (Elt F) → (⟨S32x512, .f32⟩ : BufTy).Contents (Elt F)),
   StableHlo.unary main_arg7 main_v10 ((extractStridedSlice S16x512 ![192, 0] · slices_S208x512_S16x512_192_0) : (⟨S208x512, .f32⟩ : BufTy).Contents (Elt F) → (⟨S16x512, .f32⟩ : BufTy).Contents (Elt F)),
   StableHlo.reshape main_arg8 main_v11 (rfl : (.f32 : EltTy) = .f32) shapeCasts_S512_S1x512,
   StableHlo.reshape main_arg10 main_v12 (rfl : (.f32 : EltTy) = .f32) shapeCasts_S256_S1x256,
   StableHlo.reshape main_arg12 main_v13 (rfl : (.f32 : EltTy) = .f32) shapeCasts_S128_S1x128,
   StableHlo.reshape main_arg14 main_v14 (rfl : (.f32 : EltTy) = .f32) shapeCasts_S256_S1x256,
   StableHlo.reshape main_arg15 main_v15 (rfl : (.f32 : EltTy) = .f32) shapeCasts_S512_S1x512,
   StableHlo.reshape main_arg16 main_v16 (rfl : (.f32 : EltTy) = .f32) shapeCasts_S512_S1x512,
   StableHlo.reshape main_arg17 main_v17 (rfl : (.f32 : EltTy) = .f32) shapeCasts_S256_S1x256,
   StableHlo.reshape main_arg18 main_v18 (rfl : (.f32 : EltTy) = .f32) shapeCasts_S256_S1x256,
   StableHlo.reshape main_arg19 main_v19 (rfl : (.f32 : EltTy) = .f32) shapeCasts_S128_S1x128,
   StableHlo.reshape main_arg20 main_v20 (rfl : (.f32 : EltTy) = .f32) shapeCasts_S128_S1x128]

/-- What the SparseCore's call does to the memory. -/
abbrev opsG (B : Outs F) : List (HloOp τ sig (Elt F)) :=
  [StableHlo.nullary main_v6_0 B.ou, StableHlo.nullary main_v6_1 B.oi, StableHlo.nullary main_v6_2 B.oc]

/-- What the TensorCore's kernel does to the memory. -/
abbrev opsM (r : Vec F S4096x256 .f32) : List (HloOp τ sig (Elt F)) := [StableHlo.nullary main_v21 r]

variable (m : (ℓ : Loc nD τ sig) → Buf (Elt F) ℓ)

/-- The memory of device `d` at the start, -/
def W0 (d : Dev nD) : Valuation τ sig (Elt F) := fun b => m (d, b)
/-- with the tables laid out, -/
def W1 (d : Dev nD) : Valuation τ sig (Elt F) := StableHlo.after ops0 (W0 m d)

/-- What the gather reads: the memory's three index lists and the three tables laid out. -/
def insOf (d : Dev nD) : Ins F := ⟨W1 m d main_arg1, W1 m d main_arg2, W1 m d main_arg3, W1 m d main_v1, W1 m d main_v3, W1 m d main_v5⟩
/-- What the gathered arrays hold before. -/
def outsOf (d : Dev nD) : Outs F := ⟨W1 m d main_v6_0, W1 m d main_v6_1, W1 m d main_v6_2⟩

/-- with the rows gathered, -/
def W2 (d : Dev nD) : Valuation τ sig (Elt F) := StableHlo.after (opsG (insOf m d).gather) (W1 m d)
/-- with the weights laid out, -/
def W3 (d : Dev nD) : Valuation τ sig (Elt F) := StableHlo.after ops1 (W2 m d)
/-- and at the end. -/
def W4 (d : Dev nD) : Valuation τ sig (Elt F) :=
  StableHlo.after (opsM (mlpOut (fun c b => W3 m c b) d)) (W3 m d)

/-- The program is the tables' layout, the SparseCore's call, the weights' layout and the TensorCore's kernel. -/
theorem main_eq (d : Dev nD) : main (F := F) d = StableHlo.seqK ops0 ((K (F := F)).run d 0 >>= fun _ =>
    StableHlo.seqK ops1 (Prog.lift (.customCall (SparseCore.inner (Pipeline.entry 0)) ()) >>= fun _ => pure ⟨⟩)) := rfl

/-! ## The call's arrays among the device's -/

/-- The nine arrays of the call. -/
def callRefs : Finset (DevRef τ sig) := ({main_arg1, main_arg2, main_arg3, main_v1, main_v3, main_v5, main_v6_0, main_v6_1, main_v6_2} : Finset (Ref sig .tc)).map ⟨Proc.devRef (τ := τ) .tc, Proc.devRef_injective _⟩

/-- The nine are among the arrays that the device's thread holds. -/
theorem callRefs_sub : callRefs ⊆ ucRefs τ sig := by
  intro b hb
  obtain ⟨r, hr, rfl⟩ := Finset.mem_map.mp hb
  refine Finset.mem_filter.mpr ⟨StableHlo.devRef_mem_tcRefs r, ?_⟩
  revert r; decide

omit [FloatOps F] in
/-- Holding the nine at a valuation is what the call's proof asks for. -/
theorem held_call (d : Dev nD) (W : Valuation τ sig (Elt F)) :
    (StableHlo.held (T d) callRefs W : sProp 𝕄)
      = callPts ⟨W main_arg1, W main_arg2, W main_arg3, W main_v1, W main_v3, W main_v5⟩ ⟨W main_v6_0, W main_v6_1, W main_v6_2⟩ d := by
  unfold StableHlo.held callRefs callPts
  rw [bigSep_map]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-! ## The stages -/

/-- The tables' layout touches only arrays of the device's thread; -/
theorem ops0_sub : ∀ op ∈ ops0 (F := F), op.bufs ⊆ ucRefs τ sig := fun op h => Pipeline.sub_ucRefs op (by
  revert op; simp only [List.forall_mem_cons, List.not_mem_nil, StableHlo.unary_bufs_sub, StableHlo.reshape_bufs_sub, true_and, IsEmpty.forall_iff, implies_true])
/-- so does the weights'. -/
theorem ops1_sub : ∀ op ∈ ops1 (F := F), op.bufs ⊆ ucRefs τ sig := fun op h => Pipeline.sub_ucRefs op (by
  revert op; simp only [List.forall_mem_cons, List.not_mem_nil, StableHlo.unary_bufs_sub, StableHlo.reshape_bufs_sub, true_and, IsEmpty.forall_iff, implies_true])
/-- The tables' layout makes no new buffer, -/
theorem ops0_fresh : ∀ op ∈ ops0 (F := F), op.fresh = ∅ := List.forall_iff_forall_mem.mp (StableHlo.forall_fresh_of_map rfl)
/-- nor does the weights'. -/
theorem ops1_fresh : ∀ op ∈ ops1 (F := F), op.fresh = ∅ := List.forall_iff_forall_mem.mp (StableHlo.forall_fresh_of_map rfl)

/-- The gather leaves every array but its three as it was. -/
theorem W2_ne (d : Dev nD) {r : Ref sig .tc} (h0 : r ≠ main_v6_0) (h1 : r ≠ main_v6_1) (h2 : r ≠ main_v6_2) : W2 m d r = W1 m d r := by
  unfold W2
  exact StableHlo.after_of_writes_sub (W := [main_v6_0, main_v6_1, main_v6_2]) _ _ (StableHlo.forall_writes_sub_of_map rfl) (by simp [h0, h1, h2])

/-- What the gather leaves in its three arrays. -/
theorem W2_res (d : Dev nD) : (⟨W2 m d main_v6_0, W2 m d main_v6_1, W2 m d main_v6_2⟩ : Outs F) = (insOf m d).gather := by
  unfold W2 opsG
  after_results_simp

/-- The same, array by array. -/
theorem W2_out (d : Dev nD) : W2 m d main_v6_0 = (insOf m d).gather.ou ∧ W2 m d main_v6_1 = (insOf m d).gather.oi
    ∧ W2 m d main_v6_2 = (insOf m d).gather.oc := by
  have h := W2_res m d
  rw [← h]; exact ⟨rfl, rfl, rfl⟩

/-- The call's arrays before it. -/
theorem call_pre (d : Dev nD) : (StableHlo.held (T d) callRefs (W1 m d) : sProp 𝕄)
    = bigSep Finset.univ fun c : Fin ((K (F := F)).nCore 0) => (P (insOf m) (outsOf m)).st 0 d c :=
  (held_call d (W1 m d)).trans (deal (insOf m d) (outsOf m d) d)

/-- The call's arrays after it. -/
theorem call_post (d : Dev nD) : (StableHlo.held (T d) callRefs (W2 m d) : sProp 𝕄)
    = bigSep Finset.univ fun c : Fin ((K (F := F)).nCore 0) => (P (insOf m) (outsOf m)).dn 0 d c := by
  refine (held_call d (W2 m d)).trans ?_
  rw [W2_res, W2_ne m d (r := main_arg1) (by decide) (by decide) (by decide), W2_ne m d (r := main_arg2) (by decide) (by decide) (by decide),
    W2_ne m d (r := main_arg3) (by decide) (by decide) (by decide), W2_ne m d (r := main_v1) (by decide) (by decide) (by decide),
    W2_ne m d (r := main_v3) (by decide) (by decide) (by decide), W2_ne m d (r := main_v5) (by decide) (by decide) (by decide)]
  exact deal (insOf m d) (insOf m d).gather d

/-- The arrays beside the call's are as they were. -/
theorem call_rest (d : Dev nD) : (StableHlo.held (T d) (ucRefs τ sig \ callRefs) (W2 m d) : sProp 𝕄)
    = StableHlo.held (T d) (ucRefs τ sig \ callRefs) (W1 m d) := by
  refine StableHlo.held_congr _ fun b hb => ?_
  obtain ⟨hu, hc⟩ := Finset.mem_sdiff.mp hb
  obtain ⟨r, -, rfl⟩ := Finset.mem_map.mp (Finset.mem_filter.mp hu).1
  have hn : ∀ x ∈ ({main_v6_0, main_v6_1, main_v6_2} : Finset (Ref sig .tc)), r ≠ x := by
    rintro x hx rfl
    refine hc (Finset.mem_map.mpr ⟨r, ?_, rfl⟩)
    revert r; decide
  exact W2_ne m d (hn _ (by simp)) (hn _ (by simp)) (hn _ (by simp))

/-- The kernel leaves every array but its result as it was. -/
theorem W4_ne (d : Dev nD) {r : Ref sig .tc} (h : r ≠ main_v21) : W4 m d r = W3 m d r := by
  unfold W4
  exact StableHlo.after_of_writes_sub (W := [main_v21]) _ _ (StableHlo.forall_writes_sub_of_map rfl) (by simp [h])

/-- The kernel's result. -/
theorem W4_out (d : Dev nD) : W4 m d main_v21 = mlpOut (fun c b => W3 m c b) d := by
  unfold W4 opsM
  after_results_simp

end Cert.Proof

end
-- ==== Proof.Main.lean ====
/-
  The program's run from the launch's memory: the host's operations, the SparseCore's call, the TensorCore's kernel.
-/
module

public import proofs.«01_k».proof.Proof.Stages

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (ucRefs)

variable {F : FTy → Type}

local notation "𝕄" => MT nD τ sig (HIx 1) (Elt F) ℕ UU ℕ

variable [FloatOps F] (m : (ℓ : Loc nD τ sig) → Buf (Elt F) ℓ)

variable [∀ e, Nonempty (Elt F e)]

/-- The ghost state of the TensorCore's pipeline on device `d`. -/
abbrev G (d : Dev nD) : sProp 𝕄 :=
  iprop((bigSep Finset.univ fun p : Fin 1 => Pipeline.cellsGhost (Pipeline.pin (pcfgs (F := F)) adm) EP p d)
    ∗ bigSep Finset.univ fun p : Fin 1 => Pipeline.toksInit (Pipeline.pin (pcfgs (F := F)) adm) EP p d)

/-- The region at the memory before and after the kernel. -/
abbrev regAt : Pipeline.RegionSeg (pcfgs (F := F)) adm (pdats fun c b => W3 m c b) none defs₀ 𝒱₀ (K (F := F)).L (K (F := F)).lev 0 :=
  reg (fun c b => W3 m c b) (fun c b => W4 m c b) (W4_out m) (fun c b => W4_ne m c)

/-- What the region starts from. -/
theorem regAt_pre (d : Dev nD) : (regAt m).pre d = iprop(unscopedBufs d (fun b => W3 m d b) ∗ Lows d) := rfl
/-- What the region ends with. -/
theorem regAt_post (d : Dev nD) : (regAt m).post d = iprop(unscopedBufs d (fun b => W4 m d b) ∗ Lows d) := rfl

/-- The kernel, among its pipeline's labels. -/
theorem reg_run (d : Dev nD) :
    iprop(levAts (K (F := F)).L (K (F := F)).lev ∗ boundary (d.tc : Thread nD τ)
        ∗ unscopedBufs d (fun b => W3 m d b) ∗ Lows d ∗ G d)
      ⊢ (wp frame (wpE (D (F := F)) 𝒱 (d.tc : Thread nD τ) none) Set.univ
          (.op (.customCall (Pipeline.entry 0) ()) fun _ => .ret (⟨⟩ : PUnit))
          fun _ => iprop(boundary (d.tc : Thread nD τ) ∗ unscopedBufs d (fun b => W4 m d b) ∗ Lows d) : sProp 𝕄) := by
  have hreg := Pipeline.RegionSeg.wp (pcfgs (F := F)) adm (pdats fun c b => W3 m c b) none cellOf_inj EP defs₀ 𝒱₀ (K (F := F)).L (K (F := F)).lev
    (regAt m) d none (fun u h => nomatch h)
    (α := PUnit) (fun _ => .ret (⟨⟩ : PUnit)) (fun _ => iprop(boundary (d.tc : Thread nD τ) ∗ unscopedBufs d (fun b => W4 m d b) ∗ Lows d))
  rw [regAt_pre, regAt_post] at hreg
  have eG : (bigSep Finset.univ fun p : Fin 1 => Pipeline.cellsGhost (Pipeline.pin (pcfgs (F := F)) adm) EP p d : sProp 𝕄)
      = Pipeline.cellsGhost (Pipeline.pin (pcfgs (F := F)) adm) EP 0 d := bigSep_univ_of_subsingleton (0 : Fin 1)
  have eT : (bigSep Finset.univ fun p : Fin 1 => Pipeline.toksInit (Pipeline.pin (pcfgs (F := F)) adm) EP p d : sProp 𝕄)
      = Pipeline.toksInit (Pipeline.pin (pcfgs (F := F)) adm) EP 0 d := bigSep_univ_of_subsingleton (0 : Fin 1)
  iintro ⟨#Hlev, Hb, Hh, HL, HG, HT⟩
  iapply hreg $$ [Hb Hh HL Hlev HG HT]
  isplitr
  · iintro ⟨Hb, Hh, HL⟩
    rw [wp_ret]
    imodintro
    isplitl [Hb]; · iexact Hb
    isplitl [Hh]; · iexact Hh
    iexact HL
  isplitl [Hb]; · iexact Hb
  isplitl [Hh HL]
  · isplitl [Hh]; · iexact Hh
    iexact HL
  isplitr; · iexact Hlev
  isplitl [HG]
  · iapply (Entails.of_eq eG) $$ HG
  · iapply (Entails.of_eq eT) $$ HT

/-- The second half: the weights laid out, then the kernel. -/
theorem tail_run (d : Dev nD) :
    iprop(levAts (K (F := F)).L (K (F := F)).lev ∗ boundary (T d) ∗ StableHlo.held (T d) (ucRefs τ sig) (W2 m d) ∗ Lows d ∗ G d)
      ⊢ (wp frame (wpE ((K (F := F)).defs (D (F := F))) 𝒱 (SparseCore.T d) none) Set.univ
          (StableHlo.seqK ops1 (Prog.lift (.customCall (SparseCore.inner (Pipeline.entry 0)) ()) >>= fun _ => pure ⟨⟩))
          fun _ => iprop(boundary (T d) ∗ StableHlo.held (T d) (ucRefs τ sig) (W4 m d) ∗ Lows d) : sProp 𝕄) := by
  rw [← StableHlo.seq_bind_seqK]
  iintro ⟨#Hlev, Hb, Hh, HL, HG⟩
  iapply (StableHlo.wp_seq 𝒱 none Set.univ d (ucRefs τ sig) _ ops1 ops1_sub ops1_fresh (W2 m d)) $$ [Hb Hh]
  · isplitl [Hb] <;> iassumption
  iintro ⟨Hb, Hh⟩
  iapply ((K (F := F)).wp_liftProg (D (F := F)) 𝒱 (T d) Set.univ none (.op (.customCall (Pipeline.entry 0) ()) fun _ => .ret (⟨⟩ : PUnit)) _)
  ihave Hw := (reg_run m d) $$ [Hlev Hb Hh HL HG]
  · isplitl [Hlev]; · iexact Hlev
    isplitl [Hb]; · iexact Hb
    isplitl [Hh]
    · iapply (Entails.of_eq (Pipeline.unscopedBufs_held (Ix := HIx 1) (Name := ℕ) (U := UU) (Lvl := ℕ) d (W3 m d)).symm); iexact Hh
    isplitl [HL]; · iexact HL
    iexact HG
  iapply (wp_wand _ _) $$ Hw
  iintro %_ ⟨Hb, Hh, HL⟩
  isplitl [Hb]; · iexact Hb
  isplitl [Hh]
  · iapply (Entails.of_eq (Pipeline.unscopedBufs_held (Ix := HIx 1) (Name := ℕ) (U := UU) (Lvl := ℕ) d (W4 m d))); iexact Hh
  iexact HL

variable (ρ : Dev nD → PrngReg)

/-- What device `d` ends with: its every array as the fold says. -/
abbrev FIN (d : Dev nD) : sProp 𝕄 := StableHlo.held (T d) (ucRefs τ sig) (W4 m d)

omit [FloatOps F] [∀ e, Nonempty (Elt F e)] in
/-- The arrays as the launch deals them. -/
theorem start_held (d : Dev nD) : (unscopedBufs d (fun b => m ((SparseCore.T d).loc b)) : sProp 𝕄) = StableHlo.held (T d) (ucRefs τ sig) (W0 m d) := by
  have h := Pipeline.unscopedBufs_held (Ix := HIx 1) (Name := ℕ) (U := UU) (Lvl := ℕ) d (W0 m d)
  exact h

/-- The program on device `d`'s TensorCore. -/
theorem hmain (κ : GSem nD τ sig → ℕ) (d : Dev nD) :
    iprop((K (F := F)).ctx EH (P (insOf m) (outsOf m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, start_held, ← StableHlo.seq_bind_seqK]
  iintro ⟨#Hctx, Hst, ⟨Hb, Hh, Hts, -⟩, HG⟩
  iapply (StableHlo.wp_seq 𝒱 none Set.univ d (ucRefs τ sig) _ ops0 ops0_sub ops0_fresh (W0 m d)) $$ [Hb Hh]
  · isplitl [Hb] <;> iassumption
  iintro ⟨Hb, Hh⟩
  ihave Hh := (show (StableHlo.held (d.tc : Thread nD τ) (ucRefs τ sig) (StableHlo.after ops0 (W0 m d)) : sProp 𝕄)
      ⊢ iprop(StableHlo.held (T d) callRefs (W1 m d) ∗ StableHlo.held (T d) (ucRefs τ sig \ callRefs) (W1 m d))
    from Entails.of_eq (StableHlo.held_sub_split (T d) callRefs_sub (W1 m d))) $$ Hh
  icases Hh with ⟨Hcall, Hrest⟩
  rw [wp_bind]
  iapply ((K (F := F)).wp_run (D (F := F)) 𝒱 (EH := EH) (P := P (insOf m) (outsOf m)) κ d 0) $$ [Hst Hcall Hrest Hb Hts HG]
  isplitr; · iexact Hctx
  isplitl [Hst]; · iexact Hst
  isplitl [Hcall]
  · iapply (Entails.of_eq (call_pre m d)) $$ Hcall
  iintro ⟨Hst, Hdn⟩
  ihave Hcall := (Entails.of_eq (call_post m d).symm) $$ Hdn
  ihave Hrest := (Entails.of_eq (call_rest m d).symm) $$ Hrest
  ihave Hlev := ((K (F := F)).ctx_levAts κ) $$ Hctx
  ihave Hst := (show (K (F := F)).tcSt EH d ((0 : Fin 1).val + 1) ⊢ iprop(Lows d ∗ (Lows d -∗ (K (F := F)).tcSt EH d 1)) from by
    show (K (F := F)).tcSt EH d 1 ⊢ iprop(Lows d ∗ (Lows d -∗ (K (F := F)).tcSt EH d 1))
    unfold SparseCore.Cfg.tcSt
    rw [(K (F := F)).Otc_end d (le_refl 1)]
    iintro ⟨HO, Hr⟩
    isplitl [HO]; · iexact HO
    iintro HO
    isplitl [HO]; · iexact HO
    iexact Hr) $$ Hst
  icases Hst with ⟨HL, Hback⟩
  ihave Hw := (tail_run m d) $$ [Hlev Hb Hcall Hrest HL HG]
  · isplitl [Hlev]; · iexact Hlev
    isplitl [Hb]; · iexact Hb
    isplitl [Hcall Hrest]
    · iapply (Entails.of_eq (StableHlo.held_sub_split (T d) callRefs_sub (W2 m d)).symm)
      isplitl [Hcall] <;> iassumption
    isplitl [HL]; · iexact HL
    iexact HG
  iapply (wp_wand _ _) $$ Hw
  iintro %_ ⟨Hb, Hh, HL⟩
  isplitl [HL Hback]; · iapply Hback; iexact HL
  isplitl [Hh]; · iexact Hh
  isplitl [Hb] <;> iassumption

/-- What the run leaves on device `d`. -/
def fq (d : Dev nD) (s' : Phys nD τ sig (Elt F)) : Prop := ∀ b ∈ ucRefs τ sig, s'.mem.mem (d, b) = W4 m d b

/-- Holding every array of the device at its value at the end, the memory has those values. -/
theorem hfin (d : Dev nD) (s' : Phys nD τ sig (Elt F)) : iprop(FIN m d ∗ SI s') ⊢ (⌜fq m d s'⌝ : sProp 𝕄) := by
  have h := pointsTo_read_all (Ix := HIx 1) (Name := ℕ) (U := UU) (Lvl := ℕ) (ucRefs τ sig) (fun b => ((d, b) : Loc nD τ sig)) (fun b => W4 m d b) s'
  have e : FIN m d = (bigSep (ucRefs τ sig) fun b => (((d, b) : Loc nD τ sig) ↦{fullShare} W4 m d b) : sProp 𝕄) := rfl
  rw [e]
  exact h.trans sep_elim_left

/-- The ghost element of the launch: the handshakes' cells and the pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] [∀ e, Nonempty (Elt F e)] in
/-- The launch's ghost element is the handshakes' part and the pipeline's. -/
theorem ownU_split (a : UH) (b : UP) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- From the launch's ghost element: the handshakes' cells, and each device's pipeline. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (insOf m) (outsOf m)).x q thr) := by
  unfold u₀
  iintro Hu
  ihave H := (ownU_split _ _) $$ Hu
  icases H with ⟨HH, HK⟩
  imod (Pipeline.fund_ghost (Pipeline.pin (pcfgs (F := F)) adm) EP cellOf_inj) $$ HK with ⟨HG, HT⟩
  imodintro
  isplitl [HH]; · iexact HH
  isplitl [HG HT]
  · rw [bigSep_sep']
    isplitl [HG] <;> iassumption
  · iapply (show (iprop(emp) : sProp 𝕄) ⊢ _ from Entails.of_eq (by
      symm
      refine (bigSep_congr fun thr _ => (bigSep_congr fun q _ => (show (P (insOf m) (outsOf m)).x q thr = iprop(emp) from rfl)).trans (bigSep_emp_const _)).trans (bigSep_emp_const _)))
    iempintro

/-- Every run of the program ends, nothing waiting, with every array as the fold says. -/
theorem run_main (hA : ∀ d, (insOf m d).InRange) :
    θ_run (Cert.KernelIdeal.defs (F := F)) (Cert.KernelIdeal.threads (F := F)) ⟨m, fun _ => 0, ρ⟩
      (fun r => (∀ d, ∀ b ∈ ucRefs τ sig, r.2.mem (d, b) = W4 m d b) ∧ r.2.sem = fun _ => 0) :=
  SparseCore.Cfg.θ_run_sc_quiescent (K := K (F := F)) (D := D (F := F)) (𝒱 := 𝒱) (EH := EH) (P := P (insOf m) (outsOf m)) (A := ∅) facts v₀
    (fun q hq => match q with | 0 => nomatch hq)
    (fun q _ => match q with | 0 => tileObl (insOf m) (outsOf m) hA)
    (fun q _ => match q with | 0 => SparseCore.Cfg.VecSplit.of_plain (vecSplit (insOf m) (outsOf m)))
    m ρ main G (FIN m) (u₀ (F := F)) (sep_elim_left.trans (hu₀ m)) (hmain m ρ) (fq m) (hfin m)
    (fun r => (∀ d, ∀ b ∈ ucRefs τ sig, r.2.mem (d, b) = W4 m d b) ∧ r.2.sem = fun _ => 0) (fun _ h hz => ⟨h, hz⟩)

end Cert.Proof

end
-- ==== Proof.Ranges.lean ====
/-
  What the preconditions say: every index is a row of its table, and every entry of the arrays assumed finite is a
  real number.
-/
module

public import proofs.«01_k».proof.Defs
public import proofs.«01_k».proof.Proof.Gen.KernelIdeal
public import proofs.«01_k».proof.Proof.Gen.Pre_ids_in_range
public import proofs.«01_k».proof.Proof.Gen.Pre_ids_in_range_finite
public import Idealize.ShloMosaic.Lib.ReduceAll
public import Idealize.ShloMosaic.Lib.Pointwise

@[expose] public section

noncomputable section

namespace Cert.Proof

open Cert.KernelIdeal Idealize.ShloMosaic

/-- A scalar has one index. -/
instance : Subsingleton S_.Idx := ⟨fun a b => funext fun k => k.elim0⟩

/-- The one index of a scalar. -/
def atScalar : S_.Idx := fun k => k.elim0

/-- An array of words that are all at least zero and below `n`, read signed, holds numbers below `n`. -/
theorem all_in {A : IVec S4096 32} {n : BitVec 32} {hb : S_.BroadcastsInDim S4096 (![] : Fin 0 → Fin S4096.rank)}
    {hr : S4096.ReducesTo [0] S_} {hu : 0 < S_.numel} (hn : n.toNat < 2 ^ 31)
    (e : Host.reduce IntOp.andi (andi (cmpi .sge A (broadcastInDim S4096 ![] hb (constantI S_ 32 0#32)))
      (cmpi .slt A (broadcastInDim S4096 ![] hb (constantI S_ 32 n)))) (constantI S_ 1 1#1) hr hu atScalar = 1#1) (i : S4096.Idx) :
    (A i).toNat < n.toNat := by
  obtain ⟨h1, h2⟩ := IntOp.andi_eq_one.1 (Host.reduce_andi_all _ _ _ _ atScalar e i)
  have h1 : (0#32 : BitVec 32).toInt ≤ (A i).toInt := IntOp.cmpi_sge.1 h1
  have h2 : (A i).toInt < n.toInt := IntOp.cmpi_slt.1 h2
  simp only [BitVec.toInt_eq_toNat_cond, BitVec.toNat_ofNat] at h1 h2
  have := (A i).isLt
  split at h1 <;> split at h2 <;> split at h2 <;> simp_all <;> omega

/-- The indices' precondition: every user and every item is below 100000 and every category below 1000. -/
theorem ids_of_pre {F : FTy → Type} [FloatOps F] {a0 : FVec F S4096x128 .f32} {a1 a2 a3 : IVec S4096 32} {a4 a5 : FVec F S100000x32 .f32}
    {a6 : FVec F S1000x16 .f32} {a7 : FVec F S208x512 .f32} {a8 : FVec F S512 .f32} {a9 : FVec F S512x256 .f32} {a10 : FVec F S256 .f32}
    {a11 : FVec F S256x128 .f32} {a12 : FVec F S128 .f32} {a13 : FVec F S128x256 .f32} {a14 : FVec F S256 .f32}
    {a15 a16 : FVec F S512 .f32} {a17 a18 : FVec F S256 .f32} {a19 a20 : FVec F S128 .f32}
    (h : Cert.Pre_ids_in_range.fn a0 a1 a2 a3 a4 a5 a6 a7 a8 a9 a10 a11 a12 a13 a14 a15 a16 a17 a18 a19 a20 = fun _ => 1#1) :
    (∀ j, (a1 j).toNat < 100000) ∧ (∀ j, (a2 j).toNat < 100000) ∧ ∀ j, (a3 j).toNat < 1000 := by
  obtain ⟨h12, h3⟩ := IntOp.andi_eq_one.1 (congrFun h atScalar)
  obtain ⟨h1, h2⟩ := IntOp.andi_eq_one.1 h12
  exact ⟨all_in (n := 100000#32) (by decide) h1, all_in (n := 100000#32) (by decide) h2, all_in (n := 1000#32) (by decide) h3⟩

/-- The pattern of the positive infinity. -/
theorem ofBits_inf : Ideal.ofBits .f32 0x7F800000#32 = ⊤ := by simp [Ideal.ofBits, Ideal.ieee]

/-- An array every entry of which is smaller in size than infinity holds real numbers. -/
theorem all_fin {s : Shape} {axes : List (Fin s.rank)} {x : FVec Ideal s .f32} {hb : S_.BroadcastsInDim s (![] : Fin 0 → Fin s.rank)}
    {hr : s.ReducesTo axes S_} {hu : 0 < S_.numel}
    (e : Host.reduce IntOp.andi (cmpf .olt (Host.absf x) (broadcastInDim s ![] hb (constant S_ .f32 0x7F800000#32)))
      (constantI S_ 1 1#1) hr hu atScalar = 1#1) (i : s.Idx) : ∃ r : ℝ, x i = (r : EReal) := by
  have h : BitVec.ofBool (decide (max (x i) (-(x i)) < Ideal.ofBits .f32 0x7F800000#32)) = 1#1 := Host.reduce_andi_all _ _ _ _ atScalar e i
  rw [ofBits_inf] at h
  have h : max (x i) (-(x i)) < (⊤ : EReal) := by
    by_contra hn
    rw [decide_eq_false hn] at h
    exact absurd h (by decide)
  rw [max_lt_iff] at h
  refine ⟨(x i).toReal, (EReal.coe_toReal (ne_of_lt h.1) fun hb => ?_).symm⟩
  have h2 := h.2
  rw [hb] at h2
  simp at h2

/-- The precondition of the values: the indices' ranges, and the finiteness of each array of the network but the second
    and the last layer's bias, the first and the last shift, and the last layer's weights. -/
structure Good (a0 : FVec Ideal S4096x128 .f32) (a1 a2 a3 : IVec S4096 32) (a4 a5 : FVec Ideal S100000x32 .f32)
    (a6 : FVec Ideal S1000x16 .f32) (a7 : FVec Ideal S208x512 .f32) (a8 : FVec Ideal S512 .f32) (a9 : FVec Ideal S512x256 .f32)
    (a11 : FVec Ideal S256x128 .f32) (a12 : FVec Ideal S128 .f32)
    (a15 : FVec Ideal S512 .f32) (a17 a18 : FVec Ideal S256 .f32) (a19 : FVec Ideal S128 .f32) : Prop where
  r1 : ∀ j, (a1 j).toNat < 100000
  r2 : ∀ j, (a2 j).toNat < 100000
  r3 : ∀ j, (a3 j).toNat < 1000
  f0 : ∀ i, ∃ r : ℝ, a0 i = (r : EReal)
  f4 : ∀ i, ∃ r : ℝ, a4 i = (r : EReal)
  f5 : ∀ i, ∃ r : ℝ, a5 i = (r : EReal)
  f6 : ∀ i, ∃ r : ℝ, a6 i = (r : EReal)
  f7 : ∀ i, ∃ r : ℝ, a7 i = (r : EReal)
  f8 : ∀ i, ∃ r : ℝ, a8 i = (r : EReal)
  f9 : ∀ i, ∃ r : ℝ, a9 i = (r : EReal)
  f11 : ∀ i, ∃ r : ℝ, a11 i = (r : EReal)
  f12 : ∀ i, ∃ r : ℝ, a12 i = (r : EReal)
  f15 : ∀ i, ∃ r : ℝ, a15 i = (r : EReal)
  f17 : ∀ i, ∃ r : ℝ, a17 i = (r : EReal)
  f18 : ∀ i, ∃ r : ℝ, a18 i = (r : EReal)
  f19 : ∀ i, ∃ r : ℝ, a19 i = (r : EReal)

/-- What the values' precondition says of its arrays. -/
theorem good_of_pre {a0 : FVec Ideal S4096x128 .f32} {a1 a2 a3 : IVec S4096 32} {a4 a5 : FVec Ideal S100000x32 .f32}
    {a6 : FVec Ideal S1000x16 .f32} {a7 : FVec Ideal S208x512 .f32} {a8 : FVec Ideal S512 .f32} {a9 : FVec Ideal S512x256 .f32} {a10 : FVec Ideal S256 .f32}
    {a11 : FVec Ideal S256x128 .f32} {a12 : FVec Ideal S128 .f32} {a13 : FVec Ideal S128x256 .f32} {a14 : FVec Ideal S256 .f32}
    {a15 a16 : FVec Ideal S512 .f32} {a17 a18 : FVec Ideal S256 .f32} {a19 a20 : FVec Ideal S128 .f32}
    (h : Cert.Pre_ids_in_range_finite.fn a0 a1 a2 a3 a4 a5 a6 a7 a8 a9 a10 a11 a12 a13 a14 a15 a16 a17 a18 a19 a20 = fun _ => 1#1) :
    Good a0 a1 a2 a3 a4 a5 a6 a7 a8 a9 a11 a12 a15 a17 a18 a19 := by
  obtain ⟨h, g19⟩ := IntOp.andi_eq_one.1 (congrFun h atScalar)
  obtain ⟨h, g18⟩ := IntOp.andi_eq_one.1 h
  obtain ⟨h, g17⟩ := IntOp.andi_eq_one.1 h
  obtain ⟨h, g15⟩ := IntOp.andi_eq_one.1 h
  obtain ⟨h, g12⟩ := IntOp.andi_eq_one.1 h
  obtain ⟨h, g11⟩ := IntOp.andi_eq_one.1 h
  obtain ⟨h, g9⟩ := IntOp.andi_eq_one.1 h
  obtain ⟨h, g8⟩ := IntOp.andi_eq_one.1 h
  obtain ⟨h, g7⟩ := IntOp.andi_eq_one.1 h
  obtain ⟨h, g6⟩ := IntOp.andi_eq_one.1 h
  obtain ⟨h, g5⟩ := IntOp.andi_eq_one.1 h
  obtain ⟨h, g4⟩ := IntOp.andi_eq_one.1 h
  obtain ⟨h, g0⟩ := IntOp.andi_eq_one.1 h
  obtain ⟨h, g3⟩ := IntOp.andi_eq_one.1 h
  obtain ⟨g1, g2⟩ := IntOp.andi_eq_one.1 h
  exact ⟨all_in (n := 100000#32) (by decide) g1, all_in (n := 100000#32) (by decide) g2, all_in (n := 1000#32) (by decide) g3,
    all_fin g0, all_fin g4, all_fin g5, all_fin g6, all_fin g7, all_fin g8, all_fin g9, all_fin g11, all_fin g12,
    all_fin g15, all_fin g17, all_fin g18, all_fin g19⟩

end Cert.Proof

end
-- ==== Proof.Same.lean ====
/-
  The kernel over machine words and the kernel over the extended reals are one program.
-/
module

public import proofs.«01_k».proof.Proof.Gen.Kernel
public import proofs.«01_k».proof.Proof.Gen.KernelIdeal

@[expose] public section

noncomputable section

namespace Cert.Proof

open Idealize.ShloMosaic

variable {F : FTy → Type} [FloatOps F]

set_option maxHeartbeats 1000000 in
/-- The two programs' kernels are the same on every processor. -/
theorem defs₀_same : (Cert.Kernel.defs₀ (F := F)) = Cert.KernelIdeal.defs₀ := by
  funext p ℓ a
  cases p <;> exact match ℓ with
    | 0 => rfl
    | 1 => rfl

/-- The two programs' bodies are the same. -/
theorem defs_same : (Cert.Kernel.defs (F := F)) = Cert.KernelIdeal.defs :=
  congrArg (fun D => Cert.KernelIdeal.sc.defs (Pipeline.defs Cert.KernelIdeal.pcfgs D)) defs₀_same

/-- The two programs' threads are the same. -/
theorem threads_same : (Cert.Kernel.threads (F := F)) = Cert.KernelIdeal.threads := rfl

end Cert.Proof

end
-- ==== Proof.Frames.lean ====
/-
  Every execution of the program ends, leaves its arguments as they were and every semaphore at zero.
-/
module

public import proofs.«01_k».proof.Proof.Main
public import proofs.«01_k».proof.Proof.Ranges
public import proofs.«01_k».proof.Proof.Same
public import proofs.«01_k».proof.Proof.Gen.ReferenceIdeal
public import proofs.«01_k».proof.Proof.Gen.ReferenceIdeal.Run

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (ucRefs)

variable {F : FTy → Type} [FloatOps F]
variable (m : (ℓ : Loc nD τ sig) → Buf (Elt F) ℓ)

/-- The arrays the program writes before its last call. -/
abbrev wr0 : List (Ref sig .tc) := [main_v0, main_v1, main_v2, main_v3, main_v4, main_v5]
/-- The arrays it writes between its calls. -/
abbrev wr1 : List (Ref sig .tc) := [main_v7, main_v8, main_v9, main_v10, main_v11, main_v12, main_v13, main_v14, main_v15, main_v16, main_v17, main_v18, main_v19, main_v20]

/-- The layout of the tables leaves every other array as it was. -/
theorem W1_ne (d : Dev nD) {r : Ref sig .tc} (h : r ∉ wr0) : W1 m d r = m (d, Proc.devRef .tc r) := by
  unfold W1
  exact (StableHlo.after_of_writes_sub (W := wr0) _ _ (StableHlo.forall_writes_sub_of_map rfl) h).trans rfl

/-- The layout of the weights leaves every other array as it was. -/
theorem W3_ne (d : Dev nD) {r : Ref sig .tc} (h : r ∉ wr1) : W3 m d r = W2 m d r := by
  unfold W3
  exact StableHlo.after_of_writes_sub (W := wr1) _ _ (StableHlo.forall_writes_sub_of_map rfl) h

/-- An array the program never writes is at its end as it was, before the last call too. -/
theorem W3_arg (d : Dev nD) {r : Ref sig .tc} (h : r ∉ wr0 ++ wr1 ++ [main_v6_0, main_v6_1, main_v6_2, main_v21]) :
    W3 m d r = m (d, Proc.devRef .tc r) := by
  simp only [List.mem_append, List.mem_cons, List.not_mem_nil, or_false, not_or] at h
  rw [W3_ne m d (by simp only [List.mem_cons, List.not_mem_nil, or_false, not_or]; exact h.1.2),
    W2_ne m d h.2.1 h.2.2.1 h.2.2.2.1, W1_ne m d (by simp only [List.mem_cons, List.not_mem_nil, or_false, not_or]; exact h.1.1)]

/-- An array the program never writes is at its end as it was. -/
theorem W4_arg (d : Dev nD) {r : Ref sig .tc} (h : r ∉ wr0 ++ wr1 ++ [main_v6_0, main_v6_1, main_v6_2, main_v21]) :
    W4 m d r = m (d, Proc.devRef .tc r) := by
  rw [W4_ne m d (by rintro rfl; exact h (by decide)), W3_arg m d h]

/-- The gather's indices are rows of the tables if the program's are. -/
theorem insOf_range (d : Dev nD) (h : (∀ j, (m (d, Proc.devRef .tc main_arg1) j).toNat < 100000) ∧ (∀ j, (m (d, Proc.devRef .tc main_arg2) j).toNat < 100000)
    ∧ ∀ j, (m (d, Proc.devRef .tc main_arg3) j).toNat < 1000) : (insOf m d).InRange where
  h1 j := by
    show (W1 m d main_arg1 j).toNat < 100000
    rw [W1_ne m d (r := main_arg1) (by decide)]; exact h.1 j
  h2 j := by
    show (W1 m d main_arg2 j).toNat < 100000
    rw [W1_ne m d (r := main_arg2) (by decide)]; exact h.2.1 j
  h3 j := by
    show (W1 m d main_arg3 j).toNat < 1000
    rw [W1_ne m d (r := main_arg3) (by decide)]; exact h.2.2 j

/-- The result and the arguments are arrays of the machine's main memory. -/
theorem held_args : ∀ r ∈ ([main_v21, main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20] : List (Ref sig .tc)), (Proc.devRef .tc r : DevRef τ sig) ∈ ucRefs τ sig := fun r hr =>
  Finset.mem_filter.mpr ⟨StableHlo.devRef_mem_tcRefs r, by revert r; decide⟩

/-- What a run leaves: the result, the arguments as they were, and every semaphore at zero. -/
theorem run_args [∀ e, Nonempty (Elt F e)] (ρ : Dev nD → PrngReg) (hA : ∀ d, (insOf m d).InRange) :
    θ_run (Cert.KernelIdeal.defs (F := F)) (Cert.KernelIdeal.threads (F := F)) ⟨m, fun _ => 0, ρ⟩ (fun r =>
      (∀ c : Dev nD, r.2.mem ((c.tc : Thread nD τ).loc main_v21) = mlpOut (fun c b => W3 m c b) c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)) ∧ r.2.sem = fun _ => 0) :=
  (θ_run (Cert.KernelIdeal.defs (F := F)) _ _).mono (fun _ h => ⟨fun c =>
    ⟨(h.1 c _ (held_args _ (by simp))).trans (W4_out m c),
      (h.1 c _ (held_args main_arg0 (by simp))).trans (W4_arg m c (r := main_arg0) (by decide)),
      (h.1 c _ (held_args main_arg1 (by simp))).trans (W4_arg m c (r := main_arg1) (by decide)),
      (h.1 c _ (held_args main_arg2 (by simp))).trans (W4_arg m c (r := main_arg2) (by decide)),
      (h.1 c _ (held_args main_arg3 (by simp))).trans (W4_arg m c (r := main_arg3) (by decide)),
      (h.1 c _ (held_args main_arg4 (by simp))).trans (W4_arg m c (r := main_arg4) (by decide)),
      (h.1 c _ (held_args main_arg5 (by simp))).trans (W4_arg m c (r := main_arg5) (by decide)),
      (h.1 c _ (held_args main_arg6 (by simp))).trans (W4_arg m c (r := main_arg6) (by decide)),
      (h.1 c _ (held_args main_arg7 (by simp))).trans (W4_arg m c (r := main_arg7) (by decide)),
      (h.1 c _ (held_args main_arg8 (by simp))).trans (W4_arg m c (r := main_arg8) (by decide)),
      (h.1 c _ (held_args main_arg9 (by simp))).trans (W4_arg m c (r := main_arg9) (by decide)),
      (h.1 c _ (held_args main_arg10 (by simp))).trans (W4_arg m c (r := main_arg10) (by decide)),
      (h.1 c _ (held_args main_arg11 (by simp))).trans (W4_arg m c (r := main_arg11) (by decide)),
      (h.1 c _ (held_args main_arg12 (by simp))).trans (W4_arg m c (r := main_arg12) (by decide)),
      (h.1 c _ (held_args main_arg13 (by simp))).trans (W4_arg m c (r := main_arg13) (by decide)),
      (h.1 c _ (held_args main_arg14 (by simp))).trans (W4_arg m c (r := main_arg14) (by decide)),
      (h.1 c _ (held_args main_arg15 (by simp))).trans (W4_arg m c (r := main_arg15) (by decide)),
      (h.1 c _ (held_args main_arg16 (by simp))).trans (W4_arg m c (r := main_arg16) (by decide)),
      (h.1 c _ (held_args main_arg17 (by simp))).trans (W4_arg m c (r := main_arg17) (by decide)),
      (h.1 c _ (held_args main_arg18 (by simp))).trans (W4_arg m c (r := main_arg18) (by decide)),
      (h.1 c _ (held_args main_arg19 (by simp))).trans (W4_arg m c (r := main_arg19) (by decide)),
      (h.1 c _ (held_args main_arg20 (by simp))).trans (W4_arg m c (r := main_arg20) (by decide))⟩, h.2⟩) (run_main m ρ hA)

/-- The same without the result. -/
theorem run_frame [∀ e, Nonempty (Elt F e)] (ρ : Dev nD → PrngReg) (hA : ∀ d, (insOf m d).InRange) :
    θ_run (Cert.KernelIdeal.defs (F := F)) (Cert.KernelIdeal.threads (F := F)) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)) ∧ r.2.sem = fun _ => 0) :=
  (θ_run (Cert.KernelIdeal.defs (F := F)) _ _).mono (fun _ h => ⟨fun c => (h.1 c).2, h.2⟩) (run_args m ρ hA)

set_option maxHeartbeats 4000000 in
/-- Every execution of the kernel, over machine words, ends with its arguments as they were and every semaphore at zero. -/
theorem frame_kernel : Cert.quiescent_Kernel := by
  intro m ρ h
  have hA : ∀ d, (insOf (F := Bits) m d).InRange := fun d => insOf_range m d (ids_of_pre (h d))
  rw [defs_same, threads_same]
  exact run_frame (F := Bits) m ρ hA

/-- Every execution of the kernel, over the extended reals, ends with its arguments as they were and every semaphore at zero. -/
theorem frame_kernel_ideal : Cert.quiescent_KernelIdeal := fun m ρ h =>
  run_frame (F := Ideal) m ρ fun d => insOf_range m d (ids_of_pre (h d))

/-- The same under the values' precondition. -/
theorem frame_kernel_ideal_finite : Cert.quiescent_KernelIdeal_pre_ids_in_range_finite := fun m ρ h =>
  run_frame (F := Ideal) m ρ fun d => insOf_range m d ⟨(good_of_pre (h d)).r1, (good_of_pre (h d)).r2, (good_of_pre (h d)).r3⟩

/-- Every execution of the reference ends with its arguments as they were and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the values' precondition. -/
theorem frame_reference_finite : Cert.quiescent_ReferenceIdeal_pre_ids_in_range_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Norm.lean ====
/-
  Batch normalisation over the extended reals: the mean of the squares less the square of the mean, multiplied through,
  is the mean of the squared deviations, divided through, wherever the entries are real numbers. A column that is the same
  infinity in every row comes out of either as one number in every row, and the next normalisation drops what one number
  in every row adds to a column: so the first shift and the second layer's bias may be infinite.
-/
module

public import Idealize.ShloMosaic.PureOps.Ideal
public import Idealize.ShloMosaic.PureOps.Ideal.Laws

@[expose] public section

noncomputable section

namespace Cert.Proof

open Idealize.ShloMosaic

/-- The number of rows. -/
abbrev cnt : EReal := Ideal.ofBits .f32 0x45800000#32
/-- What is added to a variance. -/
abbrev eps : EReal := Ideal.ofBits .f32 0x3727C5AC#32

/-- The number of rows is 4096. -/
theorem cnt_eq : cnt = ((4096 : ℝ) : EReal) := by
  simp [cnt, Ideal.ofBits, Ideal.ieee, -EReal.coe_mul]; norm_num

/-- What is added to a variance is positive. -/
theorem eps_pos : ∃ e : ℝ, 0 < e ∧ eps = (e : EReal) := by
  refine ⟨(10995116 : ℝ) * 2 ^ (-40 : ℤ), by positivity, ?_⟩
  simp [eps, Ideal.ofBits, Ideal.ieee, -EReal.coe_mul]

/-- A sum of real numbers. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The squared deviations' sum is the squares' sum less the count times the mean's square. -/
theorem sum_dev (r : Fin 4096 → ℝ) :
    (∑ k, (r k - (∑ k, r k) * (1 / 4096)) * (r k - (∑ k, r k) * (1 / 4096))) * (1 / 4096)
      = (∑ k, r k * r k) * (1 / 4096) - (∑ k, r k) * (1 / 4096) * ((∑ k, r k) * (1 / 4096)) := by
  generalize hS : ∑ k, r k = S
  have h : ∀ k, (r k - S * (1 / 4096)) * (r k - S * (1 / 4096)) = r k * r k - r k * (2 * (S * (1 / 4096))) + S * (1 / 4096) * (S * (1 / 4096)) :=
    fun k => by ring
  rw [Finset.sum_congr rfl fun k _ => h k, Finset.sum_add_distrib, Finset.sum_sub_distrib, ← Finset.sum_mul, hS, Finset.sum_const,
    Finset.card_univ, Fintype.card_fin, nsmul_eq_mul]
  push_cast
  ring

variable {n : ℕ}

/-- The reference's normalisation of column `j`, scaled, shifted and clipped below at zero, at row `i`. -/
def refNorm (h : Fin 4096 → Fin n → EReal) (g be : Fin n → EReal) (i : Fin 4096) (j : Fin n) : EReal :=
  max (Ideal.div (h i j - Ideal.div (∑ k, h k j) cnt)
    (Ideal.sqrt (Ideal.div (∑ k, (h k j - Ideal.div (∑ k, h k j) cnt) * (h k j - Ideal.div (∑ k, h k j) cnt)) cnt + eps)) * g j + be j) 0

/-- The kernel's: the column's mean and the mean of its squares by products with a row of ones. -/
def kerNorm (h : Fin 4096 → Fin n → EReal) (g be : Fin n → EReal) (i : Fin 4096) (j : Fin n) : EReal :=
  max (h i j * (g j * Ideal.rsqrt (Ideal.div (∑ k, (h k j * h k j)) cnt
      - Ideal.div (∑ k, h k j) cnt * Ideal.div (∑ k, h k j) cnt + eps))
    + (be j - Ideal.div (∑ k, h k j) cnt * (g j * Ideal.rsqrt (Ideal.div (∑ k, (h k j * h k j)) cnt
      - Ideal.div (∑ k, h k j) cnt * Ideal.div (∑ k, h k j) cnt + eps)))) 0

section column
variable {h : Fin 4096 → Fin n → EReal} {g be : Fin n → EReal} {j : Fin n} (r : Fin 4096 → ℝ) (hr : ∀ k, h k j = (r k : EReal))
include hr

/-- The reference's mean of a column of real numbers. -/
theorem mean_eq : Ideal.div (∑ k, h k j) cnt = (((∑ k, r k) * (1 / 4096) : ℝ) : EReal) := by
  rw [cnt_eq, Ideal.div_coe (by norm_num), Finset.sum_congr rfl fun k _ => hr k, coe_sum, ← EReal.coe_mul]

/-- The reference's variance of such a column. -/
theorem var_eq : Ideal.div (∑ k, (h k j - Ideal.div (∑ k, h k j) cnt) * (h k j - Ideal.div (∑ k, h k j) cnt)) cnt
    = (((∑ k, (r k - (∑ k, r k) * (1 / 4096)) * (r k - (∑ k, r k) * (1 / 4096))) * (1 / 4096) : ℝ) : EReal) := by
  rw [mean_eq r hr, Finset.sum_congr rfl fun k _ => show _ = (((r k - (∑ k, r k) * (1 / 4096)) * (r k - (∑ k, r k) * (1 / 4096)) : ℝ) : EReal) by
    rw [hr k, ← EReal.coe_sub, ← EReal.coe_mul], coe_sum, cnt_eq, Ideal.div_coe (by norm_num), ← EReal.coe_mul]

/-- The kernel's variance of such a column is the reference's. -/
theorem kvar_eq : Ideal.div (∑ k, (h k j * h k j)) cnt
      - Ideal.div (∑ k, h k j) cnt * Ideal.div (∑ k, h k j) cnt
    = (((∑ k, (r k - (∑ k, r k) * (1 / 4096)) * (r k - (∑ k, r k) * (1 / 4096))) * (1 / 4096) : ℝ) : EReal) := by
  rw [mean_eq r hr, Finset.sum_congr rfl fun k _ => show _ = ((r k * r k : ℝ) : EReal) by rw [hr k, ← EReal.coe_mul],
    coe_sum, cnt_eq, Ideal.div_coe (by norm_num), ← EReal.coe_mul, ← EReal.coe_mul, ← EReal.coe_sub, sum_dev]

/-- The square root of the variance with what is added to it is a positive real number, the same in both. -/
theorem root_eq : ∃ s : ℝ, 0 < s
    ∧ Ideal.sqrt (Ideal.div (∑ k, (h k j - Ideal.div (∑ k, h k j) cnt) * (h k j - Ideal.div (∑ k, h k j) cnt)) cnt + eps) = (s : EReal)
    ∧ Ideal.rsqrt (Ideal.div (∑ k, (h k j * h k j)) cnt
        - Ideal.div (∑ k, h k j) cnt * Ideal.div (∑ k, h k j) cnt + eps) = ((s⁻¹ : ℝ) : EReal) := by
  obtain ⟨e, he, hE⟩ := eps_pos
  rw [var_eq r hr, kvar_eq r hr, hE]
  generalize hV : (∑ k, (r k - (∑ k, r k) * (1 / 4096)) * (r k - (∑ k, r k) * (1 / 4096))) * (1 / 4096) = V
  have h0 : 0 ≤ V := by
    rw [← hV]
    exact mul_nonneg (Finset.sum_nonneg fun k _ => mul_self_nonneg _) (by norm_num)
  have hp : 0 < V + e := by linarith
  refine ⟨Real.sqrt (V + e), Real.sqrt_pos.mpr hp, ?_, ?_⟩
  · rw [← EReal.coe_add, Ideal.sqrt_coe, if_neg (not_lt.mpr hp.le)]
  · rw [← EReal.coe_add, Ideal.rsqrt_coe, if_neg (not_lt.mpr hp.le), if_neg hp.ne']

/-- On a column of real numbers with a real scale the two normalisations are one, whatever the shift. -/
theorem norm_eq (hg : ∃ x : ℝ, g j = (x : EReal)) (i : Fin 4096) : kerNorm h g be i j = refNorm h g be i j := by
  obtain ⟨x, hx⟩ := hg
  obtain ⟨s, hs, h1, h2⟩ := root_eq r hr
  unfold kerNorm refNorm
  rw [h1, h2, mean_eq r hr, hr i, hx]
  generalize (∑ k, r k) * (1 / 4096) = m
  rw [← EReal.coe_sub, Ideal.div_coe hs.ne', ← EReal.coe_mul, ← EReal.coe_mul, ← EReal.coe_mul, ← EReal.coe_mul, ← EReal.coe_mul]
  congr 1
  generalize be j = b
  induction b with
  | bot => simp
  | top => rw [EReal.top_sub_coe, EReal.coe_add_top, EReal.coe_add_top]
  | coe b =>
    rw [← EReal.coe_sub, ← EReal.coe_add, ← EReal.coe_add]
    congr 1
    field_simp
    ring

/-- Where the shift is real too, what comes out is. -/
theorem refNorm_real (hg : ∃ x : ℝ, g j = (x : EReal)) (hb : ∃ x : ℝ, be j = (x : EReal)) (i : Fin 4096) :
    ∃ x : ℝ, refNorm h g be i j = (x : EReal) := by
  obtain ⟨x, hx⟩ := hg
  obtain ⟨b, hb⟩ := hb
  obtain ⟨s, hs, h1, h2⟩ := root_eq r hr
  unfold refNorm
  rw [h1, mean_eq r hr, hr i, hx, hb, ← EReal.coe_sub, Ideal.div_coe hs.ne', ← EReal.coe_mul, ← EReal.coe_mul, ← EReal.coe_add,
    ← EReal.coe_zero, ← EReal.coe_strictMono.monotone.map_max]
  exact ⟨_, rfl⟩

end column

/-- A layer: a product with a matrix, and a bias. -/
def layer {m : ℕ} (x : Fin 4096 → Fin m → EReal) (W : Fin m → Fin n → EReal) (b : Fin n → EReal) (i : Fin 4096) (j : Fin n) : EReal :=
  (∑ k, x i k * W k j) + b j

/-- On real entries the two normalisations of a whole array are one. -/
theorem norm_fun {h : Fin 4096 → Fin n → EReal} {g : Fin n → EReal} (hh : ∀ i j, ∃ r : ℝ, h i j = (r : EReal))
    (hg : ∀ j, ∃ r : ℝ, g j = (r : EReal)) (be : Fin n → EReal) : kerNorm h g be = refNorm h g be := by
  choose r hr using hh
  funext i j
  exact norm_eq (fun k => r k j) (fun k => hr k j) (hg j) i

/-- A column that holds a real number in every row, or one infinity in every row. -/
def Level (f : Fin 4096 → EReal) : Prop := (∃ r : Fin 4096 → ℝ, ∀ i, f i = (r i : EReal)) ∨ (∀ i, f i = ⊤) ∨ ∀ i, f i = ⊥

/-- One real number in every row is level. -/
theorem Level.real (x : ℝ) : Level fun _ => (x : EReal) := .inl ⟨fun _ => x, fun _ => rfl⟩

/-- One extended real in every row is level. -/
theorem Level.one (x : EReal) : Level fun _ => x := by
  induction x with
  | bot => exact .inr (.inr fun _ => rfl)
  | top => exact .inr (.inl fun _ => rfl)
  | coe x => exact .real x

/-- The sum of two level columns is level. -/
theorem Level.add {f g : Fin 4096 → EReal} (hf : Level f) (hg : Level g) : Level fun i => f i + g i := by
  rcases hf with ⟨r, hr⟩ | hf | hf
  · rcases hg with ⟨q, hq⟩ | hg | hg
    · exact .inl ⟨fun i => r i + q i, fun i => by beta_reduce; rw [hr, hq, EReal.coe_add]⟩
    · exact .inr (.inl fun i => by beta_reduce; rw [hr, hg, EReal.coe_add_top])
    · exact .inr (.inr fun i => by beta_reduce; rw [hg, EReal.add_bot])
  · rcases hg with ⟨q, hq⟩ | hg | hg
    · exact .inr (.inl fun i => by beta_reduce; rw [hf, hq, EReal.top_add_coe])
    · exact .inr (.inl fun i => by beta_reduce; rw [hf, hg, EReal.top_add_top])
    · exact .inr (.inr fun i => by beta_reduce; rw [hg, EReal.add_bot])
  · exact .inr (.inr fun i => by beta_reduce; rw [hf, EReal.bot_add])

/-- A level column times a real number is level. -/
theorem Level.mul_real {f : Fin 4096 → EReal} (hf : Level f) (x : ℝ) : Level fun i => f i * (x : EReal) := by
  rcases hf with ⟨r, hr⟩ | hf | hf
  · exact .inl ⟨fun i => r i * x, fun i => by beta_reduce; rw [hr, EReal.coe_mul]⟩
  · simpa only [hf] using Level.one (⊤ * (x : EReal))
  · simpa only [hf] using Level.one (⊥ * (x : EReal))

/-- A sum of level columns is level. -/
theorem Level.sum {m : ℕ} (s : Finset (Fin m)) {f : Fin 4096 → Fin m → EReal} (hf : ∀ k, Level fun i => f i k) :
    Level fun i => ∑ k ∈ s, f i k := by
  classical
  induction s using Finset.induction_on with
  | empty => simpa using Level.real 0
  | insert a s ha ih => simpa only [Finset.sum_insert ha] using (hf a).add ih

/-- A layer of level columns with real weights has level columns, whatever the bias. -/
theorem layer_level {m : ℕ} {x : Fin 4096 → Fin m → EReal} {W : Fin m → Fin n → EReal} (hx : ∀ k, Level fun i => x i k)
    (hW : ∀ k j, ∃ r : ℝ, W k j = (r : EReal)) (b : Fin n → EReal) (j : Fin n) : Level fun i => layer x W b i j := by
  refine (Level.sum Finset.univ (f := fun i k => x i k * W k j) fun k => ?_).add (Level.one (b j))
  obtain ⟨w, hw⟩ := hW k j
  simpa only [hw] using (hx k).mul_real w

/-- A column of real numbers, normalised with a real scale, is level whatever the shift. -/
theorem refNorm_level {h : Fin 4096 → Fin n → EReal} {g : Fin n → EReal} {j : Fin n} (r : Fin 4096 → ℝ) (hr : ∀ k, h k j = (r k : EReal))
    (hg : ∃ x : ℝ, g j = (x : EReal)) (be : Fin n → EReal) : Level fun i => refNorm h g be i j := by
  obtain ⟨x, hx⟩ := hg
  obtain ⟨s, hs, h1, h2⟩ := root_eq r hr
  have hu : ∀ i, ∃ u : ℝ, refNorm h g be i j = max ((u : EReal) + be j) 0 := fun i => by
    unfold refNorm
    rw [h1, mean_eq r hr, hr i, hx, ← EReal.coe_sub, Ideal.div_coe hs.ne', ← EReal.coe_mul, ← EReal.coe_mul]
    exact ⟨_, rfl⟩
  choose u hu using hu
  simp only [hu]
  generalize be j = b
  induction b with
  | bot => simpa using Level.real 0
  | top => simpa using Level.one ⊤
  | coe b =>
    refine .inl ⟨fun i => max (u i + b) 0, fun i => ?_⟩
    beta_reduce
    rw [← EReal.coe_add, ← EReal.coe_zero, ← EReal.coe_strictMono.monotone.map_max]

/-- As many copies of an infinity as there are rows sum to it. -/
theorem sum_top : (∑ _k : Fin 4096, (⊤ : EReal)) = ⊤ := by
  rw [Finset.sum_const, Finset.card_univ, Fintype.card_fin, EReal.nsmul_eq_mul, ← EReal.coe_coe_eq_natCast]
  exact EReal.coe_mul_top_of_pos (by norm_num)

/-- The same of the negative infinity. -/
theorem sum_bot : (∑ _k : Fin 4096, (⊥ : EReal)) = ⊥ := by
  rw [Finset.sum_const, Finset.card_univ, Fintype.card_fin, EReal.nsmul_eq_mul, ← EReal.coe_coe_eq_natCast]
  exact EReal.coe_mul_bot_of_pos (by norm_num)

/-- The positive infinity divided by the number of rows. -/
theorem div_top : Ideal.div ⊤ cnt = ⊤ := by
  rw [cnt_eq, Ideal.div_coe (by norm_num)]
  exact EReal.top_mul_coe_of_pos (by norm_num)

/-- The negative infinity divided by the number of rows. -/
theorem div_bot : Ideal.div ⊥ cnt = ⊥ := by
  rw [cnt_eq, Ideal.div_coe (by norm_num)]
  exact EReal.bot_mul_coe_of_pos (by norm_num)

/-- The positive infinity less itself is the negative one. -/
theorem top_less_top : (⊤ : EReal) - ⊤ = ⊥ := by rw [sub_eq_add_neg, EReal.neg_top, EReal.add_bot]

/-- Anything over the positive infinity is zero. -/
theorem over_top (x : EReal) : Ideal.div x ⊤ = 0 := by simp [Ideal.div]

/-- Of a column of one infinity each normalisation, with a real scale and a real shift, makes one real number. -/
theorem norm_flat {h : Fin 4096 → Fin n → EReal} {g be : Fin n → EReal} {j : Fin n} (hh : (∀ i, h i j = ⊤) ∨ ∀ i, h i j = ⊥)
    (hg : ∃ x : ℝ, g j = (x : EReal)) (hb : ∃ x : ℝ, be j = (x : EReal)) :
    (∃ a : ℝ, ∀ i, refNorm h g be i j = (a : EReal)) ∧ ∃ a : ℝ, ∀ i, kerNorm h g be i j = (a : EReal) := by
  obtain ⟨x, hx⟩ := hg
  obtain ⟨b, hb⟩ := hb
  obtain ⟨e, he, hE⟩ := eps_pos
  have key : ∀ t : EReal, (t = ⊤ ∨ t = ⊥) → ∃ a : ℝ, max (t * ((x : EReal) * ⊥) + ((b : EReal) - t * ((x : EReal) * ⊥))) 0 = (a : EReal) := by
    intro t ht
    rcases lt_trichotomy x 0 with h0 | h0 | h0
    · rw [EReal.coe_mul_bot_of_neg h0]
      rcases ht with rfl | rfl
      · exact ⟨0, by simp⟩
      · exact ⟨0, by simp⟩
    · subst h0
      refine ⟨max b 0, ?_⟩
      rw [EReal.coe_zero, zero_mul, mul_zero, sub_zero, zero_add, ← EReal.coe_zero, ← EReal.coe_strictMono.monotone.map_max]
    · rw [EReal.coe_mul_bot_of_pos h0]
      rcases ht with rfl | rfl
      · exact ⟨0, by simp⟩
      · exact ⟨0, by simp⟩
  have hr : ∀ t : EReal, Ideal.div t ⊤ * (x : EReal) + (b : EReal) = (b : EReal) := fun t => by rw [over_top, zero_mul, zero_add]
  rcases hh with hh | hh
  · constructor
    · refine ⟨max b 0, fun i => ?_⟩
      unfold refNorm
      simp only [hh, hx, hb, sum_top, div_top, top_less_top, EReal.bot_mul_bot, hE, EReal.top_add_coe, Ideal.sqrt_top, hr]
      rw [← EReal.coe_zero, ← EReal.coe_strictMono.monotone.map_max]
    · obtain ⟨a, ha⟩ := key ⊤ (.inl rfl)
      refine ⟨a, fun i => ?_⟩
      unfold kerNorm
      simp only [hh, hx, hb, sum_top, div_top, EReal.top_mul_top, top_less_top, EReal.bot_add, Ideal.rsqrt_bot]
      exact ha
  · constructor
    · refine ⟨max b 0, fun i => ?_⟩
      unfold refNorm
      simp only [hh, hx, hb, sum_bot, sum_top, div_bot, div_top, EReal.bot_sub, EReal.bot_mul_bot, hE, EReal.top_add_coe, Ideal.sqrt_top, hr]
      rw [← EReal.coe_zero, ← EReal.coe_strictMono.monotone.map_max]
    · obtain ⟨a, ha⟩ := key ⊥ (.inr rfl)
      refine ⟨a, fun i => ?_⟩
      unfold kerNorm
      simp only [hh, hx, hb, sum_bot, sum_top, div_bot, div_top, EReal.bot_mul_bot, top_less_top, EReal.bot_add, Ideal.rsqrt_bot]
      exact ha

/-- On a level column, with a real scale and a real shift, both normalisations give real numbers, and the two differ by one
    number in every row. -/
theorem norm_near {h : Fin 4096 → Fin n → EReal} {g be : Fin n → EReal} {j : Fin n} (hh : Level fun i => h i j)
    (hg : ∃ x : ℝ, g j = (x : EReal)) (hb : ∃ x : ℝ, be j = (x : EReal)) :
    ∃ (r : Fin 4096 → ℝ) (c : ℝ), ∀ i, refNorm h g be i j = (r i : EReal) ∧ kerNorm h g be i j = ((r i + c : ℝ) : EReal) := by
  have flat : ((∀ i, h i j = ⊤) ∨ ∀ i, h i j = ⊥) →
      ∃ (r : Fin 4096 → ℝ) (c : ℝ), ∀ i, refNorm h g be i j = (r i : EReal) ∧ kerNorm h g be i j = ((r i + c : ℝ) : EReal) := fun hf => by
    obtain ⟨⟨a, ha⟩, c, hc⟩ := norm_flat hf hg hb
    exact ⟨fun _ => a, c - a, fun i => ⟨ha i, by rw [hc i, add_sub_cancel]⟩⟩
  rcases hh with ⟨r, hr⟩ | hf | hf
  · choose u hu using refNorm_real r hr hg hb
    exact ⟨u, 0, fun i => ⟨hu i, by rw [norm_eq r hr hg i, hu i, add_zero]⟩⟩
  · exact flat (.inl hf)
  · exact flat (.inr hf)

/-- A layer of two arrays of real numbers that differ, column by column, by one number in every row: so do its results. -/
theorem layer_near {m : ℕ} {x y : Fin 4096 → Fin m → EReal} {W : Fin m → Fin n → EReal} {b : Fin n → EReal}
    (hxy : ∀ k, ∃ (r : Fin 4096 → ℝ) (c : ℝ), ∀ i, x i k = (r i : EReal) ∧ y i k = ((r i + c : ℝ) : EReal))
    (hW : ∀ k j, ∃ r : ℝ, W k j = (r : EReal)) (hb : ∀ j, ∃ r : ℝ, b j = (r : EReal)) (j : Fin n) :
    ∃ (r : Fin 4096 → ℝ) (c : ℝ), ∀ i, layer x W b i j = (r i : EReal) ∧ layer y W b i j = ((r i + c : ℝ) : EReal) := by
  choose r c hrc using hxy
  choose w hw using hW
  choose q hq using hb
  refine ⟨fun i => (∑ k, r k i * w k j) + q j, ∑ k, c k * w k j, fun i => ⟨?_, ?_⟩⟩ <;> unfold layer
  · rw [Finset.sum_congr rfl fun k _ => show _ = ((r k i * w k j : ℝ) : EReal) by rw [(hrc k i).1, hw, EReal.coe_mul], coe_sum, hq, EReal.coe_add]
  · rw [Finset.sum_congr rfl fun k _ => show _ = (((r k i + c k) * w k j : ℝ) : EReal) by rw [(hrc k i).2, hw, EReal.coe_mul], coe_sum, hq,
      ← EReal.coe_add]
    congr 1
    rw [Finset.sum_congr rfl fun k _ => add_mul (r k i) (c k) (w k j), Finset.sum_add_distrib]
    ring

/-- The reference's normalisation drops one real number added in every row to a column of real numbers. -/
theorem refNorm_shift {h h' : Fin 4096 → Fin n → EReal} {g be : Fin n → EReal} {j : Fin n} (r : Fin 4096 → ℝ) (c : ℝ)
    (hr : ∀ k, h k j = (r k : EReal)) (hr' : ∀ k, h' k j = ((r k + c : ℝ) : EReal)) (i : Fin 4096) :
    refNorm h' g be i j = refNorm h g be i j := by
  have hd : ∀ k, h' k j - Ideal.div (∑ k, h' k j) cnt = h k j - Ideal.div (∑ k, h k j) cnt := fun k => by
    rw [mean_eq r hr, mean_eq (fun k => r k + c) hr', hr, hr', ← EReal.coe_sub, ← EReal.coe_sub]
    congr 1
    rw [Finset.sum_add_distrib, Finset.sum_const, Finset.card_univ, Fintype.card_fin, nsmul_eq_mul]
    push_cast
    ring
  unfold refNorm
  simp only [hd]

section net
variable (h : Fin 4096 → Fin 512 → EReal) (g1 be1 : Fin 512 → EReal) (W2 : Fin 512 → Fin 256 → EReal) (b2 g2 be2 : Fin 256 → EReal)
  (W3 : Fin 256 → Fin 128 → EReal) (b3 g3 be3 : Fin 128 → EReal) (W4 : Fin 128 → Fin 256 → EReal) (b4 : Fin 256 → EReal)

/-- The kernel's three normalised layers on the first layer's product `h`. -/
def kerNet : Fin 4096 → Fin 256 → EReal :=
  layer (kerNorm (layer (kerNorm (layer (kerNorm h g1 be1) W2 b2) g2 be2) W3 b3) g3 be3) W4 b4

/-- The reference's. -/
def refNet : Fin 4096 → Fin 256 → EReal :=
  layer (refNorm (layer (refNorm (layer (refNorm h g1 be1) W2 b2) g2 be2) W3 b3) g3 be3) W4 b4

variable {h g1 be1 W2 b2 g2 be2 W3 b3 g3}

/-- The two networks are one where the first product, the scales, the second shift, the second and third weights and the
    third bias are real: whatever the first and the last shift, the second and the last bias and the last weights. -/
theorem net_eq (hh : ∀ i j, ∃ r : ℝ, h i j = (r : EReal)) (hg1 : ∀ j, ∃ r : ℝ, g1 j = (r : EReal))
    (hW2 : ∀ k j, ∃ r : ℝ, W2 k j = (r : EReal)) (hg2 : ∀ j, ∃ r : ℝ, g2 j = (r : EReal))
    (hbe2 : ∀ j, ∃ r : ℝ, be2 j = (r : EReal)) (hW3 : ∀ k j, ∃ r : ℝ, W3 k j = (r : EReal)) (hb3 : ∀ j, ∃ r : ℝ, b3 j = (r : EReal))
    (hg3 : ∀ j, ∃ r : ℝ, g3 j = (r : EReal)) :
    kerNet h g1 be1 W2 b2 g2 be2 W3 b3 g3 be3 W4 b4 = refNet h g1 be1 W2 b2 g2 be2 W3 b3 g3 be3 W4 b4 := by
  have h2 : ∀ j, Level fun i => layer (refNorm h g1 be1) W2 b2 i j := by
    choose r hr using hh
    exact layer_level (fun k => refNorm_level (fun i => r i k) (fun i => hr i k) (hg1 k) be1) hW2 b2
  have h3 := layer_near (b := b3) (fun k => norm_near (h2 k) (hg2 k) (hbe2 k)) hW3 hb3
  unfold kerNet refNet
  rw [norm_fun hh hg1]
  congr 1
  funext i j
  obtain ⟨r, c, hrc⟩ := h3 j
  exact (norm_eq (fun k => r k + c) (fun k => (hrc k).2) (hg3 j) i).trans (refNorm_shift r c (fun k => (hrc k).1) (fun k => (hrc k).2) i)

end net

end Cert.Proof

end
-- ==== Proof.KerValue.lean ====
/-
  The TensorCore kernel's layers read at an entry: sums over the rows of the weights, and the kernel's normalisation.
-/
module

public import proofs.«01_k».proof.Proof.Region
public import proofs.«01_k».proof.Proof.Norm
public import Idealize.ShloMosaic.Lib.Pointwise
public import Idealize.ShloMosaic.Lib.IdealHost

@[expose] public section

noncomputable section

namespace Cert.Proof

open Idealize.ShloMosaic
open Cert.KernelIdeal Cert.KernelIdeal.Gen

set_option maxRecDepth 16384 in
/-- The second layer of the kernel at an entry: the first normalisation, the weights, the bias. -/
theorem pay4_apply (h : FVec Ideal S4096x512 .f32) (g be : FVec Ideal S1x512 .f32) (W : FVec Ideal S512x256 .f32) (b : FVec Ideal S1x256 .f32)
    (i : Fin 4096) (j : Fin 256) :
    k1_pay4 (F := Ideal) h g be W b (ix2 i j) = layer (kerNorm (fun i k => h (ix2 i k)) (fun k => g (ix2 0 k)) (fun k => be (ix2 0 k)))
      (fun k j => W (ix2 k j)) (fun j => b (ix2 0 j)) i j := by
  pointwise [k1_pay4]
  unfold layer kerNorm
  rfl

set_option maxRecDepth 16384 in
/-- The first layer of the kernel at an entry: four products and the bias. -/
theorem pay2_apply (x : FVec Ideal S4096x128 .f32) (w : FVec Ideal S128x512 .f32) (u : FVec Ideal S32x4096 .f32) (wu : FVec Ideal S32x512 .f32)
    (t : FVec Ideal S32x4096 .f32) (wt : FVec Ideal S32x512 .f32) (c : FVec Ideal S16x4096 .f32) (wc : FVec Ideal S16x512 .f32) (b : FVec Ideal S1x512 .f32)
    (i : Fin 4096) (j : Fin 512) :
    k1_pay2 (F := Ideal) x w u wu t wt c wc b (ix2 i j) = (∑ k, x (ix2 i k) * w (ix2 k j)) + (∑ k, u (ix2 k i) * wu (ix2 k j))
      + (∑ k, t (ix2 k i) * wt (ix2 k j)) + (∑ k, c (ix2 k i) * wc (ix2 k j)) + b (ix2 0 j) := by
  pointwise [k1_pay2]

set_option maxRecDepth 16384 in
/-- The third layer of the kernel at an entry: the second normalisation, the weights, the bias. -/
theorem pay10_apply (h : FVec Ideal S4096x256 .f32) (g be : FVec Ideal S1x256 .f32) (W : FVec Ideal S256x128 .f32) (b : FVec Ideal S1x128 .f32)
    (i : Fin 4096) (j : Fin 128) :
    k1_pay10 (F := Ideal) h g be k1_pay7 (matmul dot_S1x4096_S4096x256_S1x256_1_0_0_1_n_n none k1_pay7 h (constant S1x256 .f32 0x00000000#32)) k1_pay9 W b (ix2 i j)
      = layer (kerNorm (fun i k => h (ix2 i k)) (fun k => g (ix2 0 k)) (fun k => be (ix2 0 k)))
        (fun k j => W (ix2 k j)) (fun j => b (ix2 0 j)) i j := by
  pointwise [k1_pay10, k1_pay7, k1_pay9]
  unfold layer kerNorm
  rfl

set_option maxRecDepth 16384 in
/-- The last layer of the kernel at an entry, from the mean and the variance of the third normalisation. -/
theorem pay1_apply (h : FVec Ideal S4096x128 .f32) (g be : FVec Ideal S1x128 .f32) (W : FVec Ideal S128x256 .f32) (b : FVec Ideal S1x256 .f32)
    (m v : FVec Ideal S1x128 .f32)
    (hm : ∀ k, m (ix2 0 k) = Ideal.div (∑ i, h (ix2 i k)) cnt)
    (hv : ∀ k, v (ix2 0 k) = Ideal.div (∑ i, h (ix2 i k) * h (ix2 i k)) cnt - Ideal.div (∑ i, h (ix2 i k)) cnt * Ideal.div (∑ i, h (ix2 i k)) cnt)
    (i : Fin 4096) (j : Fin 256) :
    k1_pay1 (F := Ideal) h g be m v (Scalar.ofBits .f32 0x3727C5AC#32) W b (ix2 i j)
      = layer (kerNorm (fun i k => h (ix2 i k)) (fun k => g (ix2 0 k)) (fun k => be (ix2 0 k)))
        (fun k j => W (ix2 k j)) (fun j => b (ix2 0 j)) i j := by
  pointwise [k1_pay1]
  unfold layer kerNorm
  simp only [hm, hv]

/-- The first scale as a row is itself. -/
theorem pay3_apply (x : FVec Ideal S1x512 .f32) (k : Fin 512) : k1_pay3 (F := Ideal) x (ix2 0 k) = x (ix2 0 k) := by
  pointwise [k1_pay3]

/-- The second scale as a row is itself. -/
theorem pay5_apply (x : FVec Ideal S1x256 .f32) (k : Fin 256) : k1_pay5 (F := Ideal) x (ix2 0 k) = x (ix2 0 k) := by
  pointwise [k1_pay5]

/-- The second shift as a row is itself. -/
theorem pay6_apply (x : FVec Ideal S1x256 .f32) (k : Fin 256) : k1_pay6 (F := Ideal) x (ix2 0 k) = x (ix2 0 k) := by
  pointwise [k1_pay6]

/-- The last scale as a row is itself. -/
theorem pay11_apply (x : FVec Ideal S1x128 .f32) (k : Fin 128) : k1_pay11 (F := Ideal) x (ix2 0 k) = x (ix2 0 k) := by
  pointwise [k1_pay11]

/-- The last shift as a row is itself. -/
theorem pay12_apply (x : FVec Ideal S1x128 .f32) (k : Fin 128) : k1_pay12 (F := Ideal) x (ix2 0 k) = x (ix2 0 k) := by
  pointwise [k1_pay12]

section last
variable (a : FVec Ideal S4096x256 .f32) (b c : FVec Ideal S1x256 .f32) (d : FVec Ideal S1x4096 .f32) (e f : FVec Ideal S1x256 .f32)
  (w : FVec Ideal S256x128 .f32) (v : FVec Ideal S1x128 .f32)

set_option maxRecDepth 16384 in
/-- The last normalisation's mean of a column of the third layer. -/
theorem pay14_apply (k : Fin 128) :
    k1_pay14 (F := Ideal) a b c d e f w v (ix2 0 k) = Ideal.div (∑ i, k1_pay10 (F := Ideal) a b c d e f w v (ix2 i k)) cnt := by
  unfold k1_pay14
  generalize k1_pay10 (F := Ideal) a b c d e f w v = h
  pointwise [k1_pay13]

set_option maxRecDepth 16384 in
/-- The last normalisation's variance of such a column: the mean of the squares less the square of the mean. -/
theorem pay15_apply (k : Fin 128) :
    k1_pay15 (F := Ideal) a b c d e f w v (ix2 0 k)
      = Ideal.div (∑ i, k1_pay10 (F := Ideal) a b c d e f w v (ix2 i k) * k1_pay10 (F := Ideal) a b c d e f w v (ix2 i k)) cnt
        - Ideal.div (∑ i, k1_pay10 (F := Ideal) a b c d e f w v (ix2 i k)) cnt
          * Ideal.div (∑ i, k1_pay10 (F := Ideal) a b c d e f w v (ix2 i k)) cnt := by
  unfold k1_pay15 k1_pay14
  generalize k1_pay10 (F := Ideal) a b c d e f w v = h
  pointwise [k1_pay13]

end last

/-- The kernel's first layer: the features' product with the weights' first rows, the gathered rows' products with the
    others, and the bias. -/
def kerFirst (x : FVec Ideal S4096x128 .f32) (u t : FVec Ideal S32x4096 .f32) (c : FVec Ideal S16x4096 .f32) (w : FVec Ideal S128x512 .f32)
    (wu wt : FVec Ideal S32x512 .f32) (wc : FVec Ideal S16x512 .f32) (b : FVec Ideal S1x512 .f32) (i : Fin 4096) (j : Fin 512) : EReal :=
  (∑ k, x (ix2 i k) * w (ix2 k j)) + (∑ k, u (ix2 k i) * wu (ix2 k j))
    + (∑ k, t (ix2 k i) * wt (ix2 k j)) + (∑ k, c (ix2 k i) * wc (ix2 k j)) + b (ix2 0 j)

/-- What the TensorCore kernel computes, at an entry. -/
theorem mlp_apply (x0 : FVec Ideal S4096x128 .f32) (x1 x2 : FVec Ideal S32x4096 .f32) (x3 : FVec Ideal S16x4096 .f32) (x4 : FVec Ideal S128x512 .f32)
    (x5 x6 : FVec Ideal S32x512 .f32) (x7 : FVec Ideal S16x512 .f32) (x8 : FVec Ideal S1x512 .f32) (x9 : FVec Ideal S512x256 .f32)
    (x10 : FVec Ideal S1x256 .f32) (x11 : FVec Ideal S256x128 .f32) (x12 : FVec Ideal S1x128 .f32) (x13 : FVec Ideal S128x256 .f32)
    (x14 : FVec Ideal S1x256 .f32) (x15 x16 : FVec Ideal S1x512 .f32) (x17 x18 : FVec Ideal S1x256 .f32) (x19 x20 : FVec Ideal S1x128 .f32)
    (i : Fin 4096) (j : Fin 256) :
    mlp (F := Ideal) x0 x1 x2 x3 x4 x5 x6 x7 x8 x9 x10 x11 x12 x13 x14 x15 x16 x17 x18 x19 x20 (ix2 i j)
      = kerNet (kerFirst x0 x1 x2 x3 x4 x5 x6 x7 x8) (fun k => x15 (ix2 0 k)) (fun k => x16 (ix2 0 k)) (fun k j => x9 (ix2 k j))
        (fun k => x10 (ix2 0 k)) (fun k => x17 (ix2 0 k)) (fun k => x18 (ix2 0 k)) (fun k j => x11 (ix2 k j)) (fun k => x12 (ix2 0 k))
        (fun k => x19 (ix2 0 k)) (fun k => x20 (ix2 0 k)) (fun k j => x13 (ix2 k j)) (fun k => x14 (ix2 0 k)) i j := by
  unfold mlp
  rw [pay1_apply _ _ _ _ _ _ _ (pay14_apply _ _ _ _ _ _ _ _) (pay15_apply _ _ _ _ _ _ _ _)]
  unfold k1_pay8
  simp only [pay10_apply, pay4_apply, pay2_apply, pay3_apply, pay5_apply, pay6_apply, pay11_apply, pay12_apply]
  rfl

end Cert.Proof

end
-- ==== Proof.KerArgs.lean ====
/-
  What the TensorCore kernel is given, read at an entry from the program's arguments: the gathered rows, the parts of the
  first layer's weights, and the vectors as rows.
-/
module

public import proofs.«01_k».proof.Proof.Frames
public import proofs.«01_k».proof.Proof.KerValue
public import Idealize.ShloMosaic.Lib.StableHlo.ReadAt

@[expose] public section

noncomputable section

namespace Cert.Proof

open Idealize.ShloMosaic
open Cert.KernelIdeal Cert.KernelIdeal.Gen
open Idealize.ShloMosaic.TcCoe

variable {F : FTy → Type} [FloatOps F]
variable (m : (ℓ : Loc nD τ sig) → Buf (Elt F) ℓ) (d : Dev nD)

/-- An array written neither by the tables' layout nor by the gather is as it was. -/
theorem W2_arg {r : Ref sig .tc} (h : r ∉ wr0) (h0 : r ≠ main_v6_0) (h1 : r ≠ main_v6_1) (h2 : r ≠ main_v6_2) :
    W2 m d r = m (d, Proc.devRef .tc r) := by
  rw [W2_ne m d h0 h1 h2, W1_ne m d h]

/-! ## The tables laid out -/

set_option maxRecDepth 16384 in
/-- Group `x`, row `y` of the table `main_arg4` laid out is its column `8 x + y`. -/
theorem v1_apply (x : Fin 4) (y : Fin 8) (z : Fin 100000) :
    (W1 m d main_v1 : FVec F S4x8x100000 .f32) (ix3 x y z)
      = (m (d, Proc.devRef .tc main_arg4) : FVec F S100000x32 .f32) (ix2 z ⟨x.val * 8 + y.val, by omega⟩) := by
  unfold W1 ops0
  after_reads_at
  rfl

set_option maxRecDepth 16384 in
/-- Group `x`, row `y` of the table `main_arg5` laid out is its column `8 x + y`. -/
theorem v3_apply (x : Fin 4) (y : Fin 8) (z : Fin 100000) :
    (W1 m d main_v3 : FVec F S4x8x100000 .f32) (ix3 x y z)
      = (m (d, Proc.devRef .tc main_arg5) : FVec F S100000x32 .f32) (ix2 z ⟨x.val * 8 + y.val, by omega⟩) := by
  unfold W1 ops0
  after_reads_at
  rfl

set_option maxRecDepth 16384 in
/-- Group `x`, row `y` of the table `main_arg6` laid out is its column `8 x + y`. -/
theorem v5_apply (x : Fin 2) (y : Fin 8) (z : Fin 1000) :
    (W1 m d main_v5 : FVec F S2x8x1000 .f32) (ix3 x y z)
      = (m (d, Proc.devRef .tc main_arg6) : FVec F S1000x16 .f32) (ix2 z ⟨x.val * 8 + y.val, by omega⟩) := by
  unfold W1 ops0
  after_reads_at
  rfl

/-! ## The gathered rows -/

/-- Column `i` of the gathered array `main_v6_0` is the table's row at the index. -/
theorem v6_0_apply (k : Fin 32) (i : Fin 4096)
    (h : ((m (d, Proc.devRef .tc main_arg1) : Vec F S4096 .i32) (ix1 i)).toNat < 100000) :
    (W3 m d main_v6_0 : FVec F S32x4096 .f32) (ix2 k i)
      = (m (d, Proc.devRef .tc main_arg4) : FVec F S100000x32 .f32) (ix2 ⟨((m (d, Proc.devRef .tc main_arg1) : Vec F S4096 .i32) (ix1 i)).toNat, h⟩ k) := by
  rw [W3_ne m d (r := main_v6_0) (by decide), (W2_out m d).1]
  have hl : lane i = ix1 i := by funext a; match a with | ⟨0, _⟩ => rfl
  have e : (insOf m d).gather.ou (ix2 k i) = (W1 m d main_v1 : FVec F S4x8x100000 .f32)
      (tabIx (g := 4) (n := 100000) (by decide) (by decide) k.val ((W1 m d main_arg1 : Vec F S4096 .i32) (lane i))) := rfl
  rw [W1_ne m d (r := main_arg1) (by decide), hl] at e
  refine e.trans ?_
  generalize (m (d, Proc.devRef .tc main_arg1) : Vec F S4096 .i32) (ix1 i) = b at h ⊢
  have ei : (tabIx (g := 4) (n := 100000) (by decide) (by decide) k.val b) = ix3 ⟨k.val / 8, by omega⟩ ⟨k.val % 8, by omega⟩ ⟨b.toNat, h⟩ := by
    funext a
    match a with
    | ⟨0, _⟩ => exact Fin.ext (Nat.mod_eq_of_lt (by omega))
    | ⟨1, _⟩ => rfl
    | ⟨2, _⟩ => exact Fin.ext (Nat.mod_eq_of_lt h)
  rw [ei, v1_apply]
  congr 2
  exact Fin.ext (by show k.val / 8 * 8 + k.val % 8 = k.val; omega)

/-- Column `i` of the gathered array `main_v6_1` is the table's row at the index. -/
theorem v6_1_apply (k : Fin 32) (i : Fin 4096)
    (h : ((m (d, Proc.devRef .tc main_arg2) : Vec F S4096 .i32) (ix1 i)).toNat < 100000) :
    (W3 m d main_v6_1 : FVec F S32x4096 .f32) (ix2 k i)
      = (m (d, Proc.devRef .tc main_arg5) : FVec F S100000x32 .f32) (ix2 ⟨((m (d, Proc.devRef .tc main_arg2) : Vec F S4096 .i32) (ix1 i)).toNat, h⟩ k) := by
  rw [W3_ne m d (r := main_v6_1) (by decide), (W2_out m d).2.1]
  have hl : lane i = ix1 i := by funext a; match a with | ⟨0, _⟩ => rfl
  have e : (insOf m d).gather.oi (ix2 k i) = (W1 m d main_v3 : FVec F S4x8x100000 .f32)
      (tabIx (g := 4) (n := 100000) (by decide) (by decide) k.val ((W1 m d main_arg2 : Vec F S4096 .i32) (lane i))) := rfl
  rw [W1_ne m d (r := main_arg2) (by decide), hl] at e
  refine e.trans ?_
  generalize (m (d, Proc.devRef .tc main_arg2) : Vec F S4096 .i32) (ix1 i) = b at h ⊢
  have ei : (tabIx (g := 4) (n := 100000) (by decide) (by decide) k.val b) = ix3 ⟨k.val / 8, by omega⟩ ⟨k.val % 8, by omega⟩ ⟨b.toNat, h⟩ := by
    funext a
    match a with
    | ⟨0, _⟩ => exact Fin.ext (Nat.mod_eq_of_lt (by omega))
    | ⟨1, _⟩ => rfl
    | ⟨2, _⟩ => exact Fin.ext (Nat.mod_eq_of_lt h)
  rw [ei, v3_apply]
  congr 2
  exact Fin.ext (by show k.val / 8 * 8 + k.val % 8 = k.val; omega)

/-- Column `i` of the gathered array `main_v6_2` is the table's row at the index. -/
theorem v6_2_apply (k : Fin 16) (i : Fin 4096)
    (h : ((m (d, Proc.devRef .tc main_arg3) : Vec F S4096 .i32) (ix1 i)).toNat < 1000) :
    (W3 m d main_v6_2 : FVec F S16x4096 .f32) (ix2 k i)
      = (m (d, Proc.devRef .tc main_arg6) : FVec F S1000x16 .f32) (ix2 ⟨((m (d, Proc.devRef .tc main_arg3) : Vec F S4096 .i32) (ix1 i)).toNat, h⟩ k) := by
  rw [W3_ne m d (r := main_v6_2) (by decide), (W2_out m d).2.2]
  have hl : lane i = ix1 i := by funext a; match a with | ⟨0, _⟩ => rfl
  have e : (insOf m d).gather.oc (ix2 k i) = (W1 m d main_v5 : FVec F S2x8x1000 .f32)
      (tabIx (g := 2) (n := 1000) (by decide) (by decide) k.val ((W1 m d main_arg3 : Vec F S4096 .i32) (lane i))) := rfl
  rw [W1_ne m d (r := main_arg3) (by decide), hl] at e
  refine e.trans ?_
  generalize (m (d, Proc.devRef .tc main_arg3) : Vec F S4096 .i32) (ix1 i) = b at h ⊢
  have ei : (tabIx (g := 2) (n := 1000) (by decide) (by decide) k.val b) = ix3 ⟨k.val / 8, by omega⟩ ⟨k.val % 8, by omega⟩ ⟨b.toNat, h⟩ := by
    funext a
    match a with
    | ⟨0, _⟩ => exact Fin.ext (Nat.mod_eq_of_lt (by omega))
    | ⟨1, _⟩ => rfl
    | ⟨2, _⟩ => exact Fin.ext (Nat.mod_eq_of_lt h)
  rw [ei, v5_apply]
  congr 2
  exact Fin.ext (by show k.val / 8 * 8 + k.val % 8 = k.val; omega)

/-! ## The first layer's weights -/

set_option maxRecDepth 16384 in
/-- Part `main_v7` of the first layer's weights is their rows from 0 on. -/
theorem v7_apply (k : Fin 128) (j : Fin 512) :
    (W3 m d main_v7 : FVec F S128x512 .f32) (ix2 k j)
      = (m (d, Proc.devRef .tc main_arg7) : FVec F S208x512 .f32) (ix2 ⟨k.val, by omega⟩ j) := by
  rw [← W2_arg m d (r := main_arg7) (by decide) (by decide) (by decide) (by decide)]
  unfold W3 ops1
  after_reads_at

set_option maxRecDepth 16384 in
/-- Part `main_v8` of the first layer's weights is their rows from 128 on. -/
theorem v8_apply (k : Fin 32) (j : Fin 512) :
    (W3 m d main_v8 : FVec F S32x512 .f32) (ix2 k j)
      = (m (d, Proc.devRef .tc main_arg7) : FVec F S208x512 .f32) (ix2 ⟨128 + k.val, by omega⟩ j) := by
  rw [← W2_arg m d (r := main_arg7) (by decide) (by decide) (by decide) (by decide)]
  unfold W3 ops1
  after_reads_at

set_option maxRecDepth 16384 in
/-- Part `main_v9` of the first layer's weights is their rows from 160 on. -/
theorem v9_apply (k : Fin 32) (j : Fin 512) :
    (W3 m d main_v9 : FVec F S32x512 .f32) (ix2 k j)
      = (m (d, Proc.devRef .tc main_arg7) : FVec F S208x512 .f32) (ix2 ⟨160 + k.val, by omega⟩ j) := by
  rw [← W2_arg m d (r := main_arg7) (by decide) (by decide) (by decide) (by decide)]
  unfold W3 ops1
  after_reads_at

set_option maxRecDepth 16384 in
/-- Part `main_v10` of the first layer's weights is their rows from 192 on. -/
theorem v10_apply (k : Fin 16) (j : Fin 512) :
    (W3 m d main_v10 : FVec F S16x512 .f32) (ix2 k j)
      = (m (d, Proc.devRef .tc main_arg7) : FVec F S208x512 .f32) (ix2 ⟨192 + k.val, by omega⟩ j) := by
  rw [← W2_arg m d (r := main_arg7) (by decide) (by decide) (by decide) (by decide)]
  unfold W3 ops1
  after_reads_at

/-! ## The vectors as rows -/

set_option maxRecDepth 16384 in
/-- The row `main_v11` is the vector `main_arg8`. -/
theorem v11_apply (j : Fin 512) :
    (W3 m d main_v11 : FVec F S1x512 .f32) (ix2 0 j) = (m (d, Proc.devRef .tc main_arg8) : FVec F S512 .f32) (ix1 j) := by
  rw [← W2_arg m d (r := main_arg8) (by decide) (by decide) (by decide) (by decide)]
  unfold W3 ops1
  after_reads_at

set_option maxRecDepth 16384 in
/-- The row `main_v12` is the vector `main_arg10`. -/
theorem v12_apply (j : Fin 256) :
    (W3 m d main_v12 : FVec F S1x256 .f32) (ix2 0 j) = (m (d, Proc.devRef .tc main_arg10) : FVec F S256 .f32) (ix1 j) := by
  rw [← W2_arg m d (r := main_arg10) (by decide) (by decide) (by decide) (by decide)]
  unfold W3 ops1
  after_reads_at

set_option maxRecDepth 16384 in
/-- The row `main_v13` is the vector `main_arg12`. -/
theorem v13_apply (j : Fin 128) :
    (W3 m d main_v13 : FVec F S1x128 .f32) (ix2 0 j) = (m (d, Proc.devRef .tc main_arg12) : FVec F S128 .f32) (ix1 j) := by
  rw [← W2_arg m d (r := main_arg12) (by decide) (by decide) (by decide) (by decide)]
  unfold W3 ops1
  after_reads_at

set_option maxRecDepth 16384 in
/-- The row `main_v14` is the vector `main_arg14`. -/
theorem v14_apply (j : Fin 256) :
    (W3 m d main_v14 : FVec F S1x256 .f32) (ix2 0 j) = (m (d, Proc.devRef .tc main_arg14) : FVec F S256 .f32) (ix1 j) := by
  rw [← W2_arg m d (r := main_arg14) (by decide) (by decide) (by decide) (by decide)]
  unfold W3 ops1
  after_reads_at

set_option maxRecDepth 16384 in
/-- The row `main_v15` is the vector `main_arg15`. -/
theorem v15_apply (j : Fin 512) :
    (W3 m d main_v15 : FVec F S1x512 .f32) (ix2 0 j) = (m (d, Proc.devRef .tc main_arg15) : FVec F S512 .f32) (ix1 j) := by
  rw [← W2_arg m d (r := main_arg15) (by decide) (by decide) (by decide) (by decide)]
  unfold W3 ops1
  after_reads_at

set_option maxRecDepth 16384 in
/-- The row `main_v16` is the vector `main_arg16`. -/
theorem v16_apply (j : Fin 512) :
    (W3 m d main_v16 : FVec F S1x512 .f32) (ix2 0 j) = (m (d, Proc.devRef .tc main_arg16) : FVec F S512 .f32) (ix1 j) := by
  rw [← W2_arg m d (r := main_arg16) (by decide) (by decide) (by decide) (by decide)]
  unfold W3 ops1
  after_reads_at

set_option maxRecDepth 16384 in
/-- The row `main_v17` is the vector `main_arg17`. -/
theorem v17_apply (j : Fin 256) :
    (W3 m d main_v17 : FVec F S1x256 .f32) (ix2 0 j) = (m (d, Proc.devRef .tc main_arg17) : FVec F S256 .f32) (ix1 j) := by
  rw [← W2_arg m d (r := main_arg17) (by decide) (by decide) (by decide) (by decide)]
  unfold W3 ops1
  after_reads_at

set_option maxRecDepth 16384 in
/-- The row `main_v18` is the vector `main_arg18`. -/
theorem v18_apply (j : Fin 256) :
    (W3 m d main_v18 : FVec F S1x256 .f32) (ix2 0 j) = (m (d, Proc.devRef .tc main_arg18) : FVec F S256 .f32) (ix1 j) := by
  rw [← W2_arg m d (r := main_arg18) (by decide) (by decide) (by decide) (by decide)]
  unfold W3 ops1
  after_reads_at

set_option maxRecDepth 16384 in
/-- The row `main_v19` is the vector `main_arg19`. -/
theorem v19_apply (j : Fin 128) :
    (W3 m d main_v19 : FVec F S1x128 .f32) (ix2 0 j) = (m (d, Proc.devRef .tc main_arg19) : FVec F S128 .f32) (ix1 j) := by
  rw [← W2_arg m d (r := main_arg19) (by decide) (by decide) (by decide) (by decide)]
  unfold W3 ops1
  after_reads_at

set_option maxRecDepth 16384 in
/-- The row `main_v20` is the vector `main_arg20`. -/
theorem v20_apply (j : Fin 128) :
    (W3 m d main_v20 : FVec F S1x128 .f32) (ix2 0 j) = (m (d, Proc.devRef .tc main_arg20) : FVec F S128 .f32) (ix1 j) := by
  rw [← W2_arg m d (r := main_arg20) (by decide) (by decide) (by decide) (by decide)]
  unfold W3 ops1
  after_reads_at

end Cert.Proof

end
-- ==== Proof.Network.lean ====
/-
  The network of the program's twenty-one arrays, in the kernel's normalisation and in the reference's: one function
  under the values' precondition.
-/
module

public import proofs.«01_k».proof.Proof.Ranges
public import proofs.«01_k».proof.Proof.Norm
public import Idealize.ShloMosaic.Lib.Pointwise

@[expose] public section

noncomputable section

namespace Cert.Proof

open Idealize.ShloMosaic

/-- A sum of products of real numbers is one. -/
theorem dot_real {n : ℕ} {x y : Fin n → EReal} (hx : ∀ k, ∃ r : ℝ, x k = (r : EReal)) (hy : ∀ k, ∃ r : ℝ, y k = (r : EReal)) :
    ∃ r : ℝ, ∑ k, x k * y k = (r : EReal) := by
  choose fx hx using hx
  choose fy hy using hy
  exact ⟨∑ k, fx k * fy k, by
    rw [Finset.sum_congr rfl fun k _ => show _ = ((fx k * fy k : ℝ) : EReal) by rw [hx, hy, EReal.coe_mul], coe_sum]⟩

/-- A sum of two real numbers is one. -/
theorem add_real {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

variable (a0 : FVec Ideal ⟨2, ![4096, 128]⟩ .f32) (a1 a2 a3 : IVec ⟨1, ![4096]⟩ 32) (a4 a5 : FVec Ideal ⟨2, ![100000, 32]⟩ .f32) (a6 : FVec Ideal ⟨2, ![1000, 16]⟩ .f32) (a7 : FVec Ideal ⟨2, ![208, 512]⟩ .f32)
  (a8 : FVec Ideal ⟨1, ![512]⟩ .f32) (a9 : FVec Ideal ⟨2, ![512, 256]⟩ .f32) (a10 : FVec Ideal ⟨1, ![256]⟩ .f32) (a11 : FVec Ideal ⟨2, ![256, 128]⟩ .f32) (a12 : FVec Ideal ⟨1, ![128]⟩ .f32)
  (a13 : FVec Ideal ⟨2, ![128, 256]⟩ .f32) (a14 : FVec Ideal ⟨1, ![256]⟩ .f32) (a15 a16 : FVec Ideal ⟨1, ![512]⟩ .f32) (a17 a18 : FVec Ideal ⟨1, ![256]⟩ .f32) (a19 a20 : FVec Ideal ⟨1, ![128]⟩ .f32)
  (h1 : ∀ j, (a1 j).toNat < 100000) (h2 : ∀ j, (a2 j).toNat < 100000) (h3 : ∀ j, (a3 j).toNat < 1000)

/-- The first layer: the features' product with the weights' first rows, the products of the tables' rows at the indices
    with the others, and the bias. -/
def first (i : Fin 4096) (j : Fin 512) : EReal :=
  (∑ k : Fin 128, a0 (ix2 i k) * a7 (ix2 ⟨k.val, by omega⟩ j))
    + (∑ k : Fin 32, a4 (ix2 ⟨(a1 (ix1 i)).toNat, h1 _⟩ k) * a7 (ix2 ⟨128 + k.val, by omega⟩ j))
    + (∑ k : Fin 32, a5 (ix2 ⟨(a2 (ix1 i)).toNat, h2 _⟩ k) * a7 (ix2 ⟨160 + k.val, by omega⟩ j))
    + (∑ k : Fin 16, a6 (ix2 ⟨(a3 (ix1 i)).toNat, h3 _⟩ k) * a7 (ix2 ⟨192 + k.val, by omega⟩ j))
    + a8 (ix1 j)

/-- The network with the kernel's normalisations. -/
def kerVal : Fin 4096 → Fin 256 → EReal :=
  kerNet (first a0 a1 a2 a3 a4 a5 a6 a7 a8 h1 h2 h3) (fun k => a15 (ix1 k)) (fun k => a16 (ix1 k)) (fun i k => a9 (ix2 i k)) (fun k => a10 (ix1 k)) (fun k => a17 (ix1 k)) (fun k => a18 (ix1 k)) (fun i k => a11 (ix2 i k)) (fun k => a12 (ix1 k)) (fun k => a19 (ix1 k)) (fun k => a20 (ix1 k)) (fun i k => a13 (ix2 i k)) (fun k => a14 (ix1 k))

/-- The network with the reference's. -/
def refVal : Fin 4096 → Fin 256 → EReal :=
  refNet (first a0 a1 a2 a3 a4 a5 a6 a7 a8 h1 h2 h3) (fun k => a15 (ix1 k)) (fun k => a16 (ix1 k)) (fun i k => a9 (ix2 i k)) (fun k => a10 (ix1 k)) (fun k => a17 (ix1 k)) (fun k => a18 (ix1 k)) (fun i k => a11 (ix2 i k)) (fun k => a12 (ix1 k)) (fun k => a19 (ix1 k)) (fun k => a20 (ix1 k)) (fun i k => a13 (ix2 i k)) (fun k => a14 (ix1 k))

/-- The two are one under the values' precondition. -/
theorem val_eq (G : Good a0 a1 a2 a3 a4 a5 a6 a7 a8 a9 a11 a12 a15 a17 a18 a19) :
    kerVal a0 a1 a2 a3 a4 a5 a6 a7 a8 a9 a10 a11 a12 a13 a14 a15 a16 a17 a18 a19 a20 h1 h2 h3
      = refVal a0 a1 a2 a3 a4 a5 a6 a7 a8 a9 a10 a11 a12 a13 a14 a15 a16 a17 a18 a19 a20 h1 h2 h3 := by
  refine net_eq _ _ _ (fun i j => ?_) (fun j => G.f15 _) (fun k j => G.f9 _) (fun j => G.f17 _) (fun j => G.f18 _)
    (fun k j => G.f11 _) (fun j => G.f12 _) (fun j => G.f19 _)
  exact add_real (add_real (add_real (add_real (dot_real (fun k => G.f0 _) fun k => G.f7 _) (dot_real (fun k => G.f4 _) fun k => G.f7 _))
    (dot_real (fun k => G.f5 _) fun k => G.f7 _)) (dot_real (fun k => G.f6 _) fun k => G.f7 _)) (G.f8 _)

end Cert.Proof

end
-- ==== Proof.RefValue.lean ====
/-
  The reference's stages read at an entry: the rows it takes, its layers and its normalisations.
-/
module

public import proofs.«01_k».proof.Proof.Gen.ReferenceIdeal.Run
public import proofs.«01_k».proof.Proof.Network
public import Idealize.ShloMosaic.Lib.Pointwise
public import Idealize.ShloMosaic.Lib.IdealHost
public import Idealize.ShloMosaic.Lib.ReduceAll
public import Idealize.ShloMosaic.Lib.Routing.Ops

@[expose] public section

noncomputable section

namespace Cert.Proof

open Idealize.ShloMosaic
open Cert.ReferenceIdeal Cert.ReferenceIdeal.Gen Cert.ReferenceIdeal.Value

/-! ## The indices -/

section words
variable {w t : BitVec 32} (ht : t.toNat < 2 ^ 31) (h : w.toNat ≤ t.toNat)
include ht h

/-- A row number is not negative. -/
theorem slt_zero : w.slt 0#32 = false := by
  rw [BitVec.slt, BitVec.toInt_eq_toNat_of_lt (by omega)]
  simp

/-- A row number clipped to the table's rows is itself. -/
theorem clip_word : IntOp.minsi t (IntOp.maxsi 0#32 w) = w := by
  have h1 : IntOp.maxsi 0#32 w = w := by
    unfold IntOp.maxsi
    rw [slt_zero ht h]; rfl
  rw [h1]
  unfold IntOp.minsi
  have : t.slt w = false := by
    rw [BitVec.slt, BitVec.toInt_eq_toNat_of_lt (by omega), BitVec.toInt_eq_toNat_of_lt (by omega)]
    simp; omega
  rw [this]; rfl

/-- A row number is kept where a negative one would be counted from the table's end. -/
theorem wrap_word (s : BitVec 32) : Scalar.select (IntOp.cmpi .slt w 0#32) s w = w := by
  unfold Scalar.select IntOp.cmpi
  simp only [slt_zero ht h]
  rfl

/-- A row number passes the two tests. -/
theorem test_word : IntOp.andi (IntOp.cmpi .sge w 0#32) (IntOp.cmpi .sle w t) = 1#1 := by
  have h1 : IntOp.cmpi .sge w 0#32 = 1#1 := by
    unfold IntOp.cmpi
    simp [BitVec.sle, BitVec.toInt_eq_toNat_of_lt (show 2 * w.toNat < 2 ^ 32 by omega)]
  have h2 : IntOp.cmpi .sle w t = 1#1 := by
    unfold IntOp.cmpi
    simp [BitVec.sle, BitVec.toInt_eq_toNat_of_lt (show 2 * w.toNat < 2 ^ 32 by omega), BitVec.toInt_eq_toNat_of_lt (show 2 * t.toNat < 2 ^ 32 by omega), h]
  rw [h1, h2]; rfl

end words

/-- A word is the one of its number. -/
theorem word_ofNat (w : BitVec 32) : w = BitVec.ofNat 32 w.toNat := by
  rw [BitVec.ofNat_toNat, BitVec.setWidth_eq]

/-! ## The rows taken -/

/-- Where every index is a row number the test of the indices passes at every row. -/
theorem mask_one (t : BitVec 32) (ht : t.toNat < 2 ^ 31) (idx : IVec S4096x1 32) (h : ∀ y, (idx y).toNat ≤ t.toNat) (j : S4096.Idx) :
    Host.reduce IntOp.andi (andi (cmpi .sge idx (broadcastInDim S4096x1 ![] bcast_S_S4096x1 (constantI S_ 32 0#32)))
      (cmpi .sle idx (broadcastInDim S4096x1 ![0, 1] bcast_S1x1_S4096x1_0_1 (broadcastInDim S1x1 ![1] bcast_S1_S1x1_1 (constantI S1 32 t)))))
      (constantI S_ 1 1#1) reducesTo_S4096x1_S4096_d1 h_S_ j = 1#1 :=
  Host.reduce_andi_one _ _ _ _ j rfl fun y => test_word ht (h y)

/-- The rows taken from a table of 100000 rows, at an entry: the table's row at the index. -/
theorem taken_big (x : FVec Ideal S100000x32 .f32) (idx : IVec S4096x1 32) (a : IVec S4096 32) (h : ∀ j, (a j).toNat < 100000)
    (e : ∀ y : S4096x1.Idx, idx y = a (ix1 (y 0))) (other : FVec Ideal S4096x32 .f32) (i : Fin 4096) (k : Fin 32) :
    select (broadcastInDim S4096x32 ![0] bcast_S4096_S4096x32_0 (Host.reduce IntOp.andi
        (andi (cmpi .sge idx (broadcastInDim S4096x1 ![] bcast_S_S4096x1 (constantI S_ 32 0#32)))
          (cmpi .sle idx (broadcastInDim S4096x1 ![0, 1] bcast_S1x1_S4096x1_0_1 (broadcastInDim S1x1 ![1] bcast_S1_S1x1_1 (constantI S1 32 99999#32)))))
        (constantI S_ 1 1#1) reducesTo_S4096x1_S4096_d1 h_S_)) (Host.gather gather_S100000x32_S4096x1_S4096x32_1_0_n_n_0_1_132 x idx) other (ix2 i k)
      = x (ix2 ⟨(a (ix1 i)).toNat, h _⟩ k) := by
  have hm := mask_one 99999#32 (by decide) idx (fun y => by rw [e y]; exact Nat.le_of_lt_succ (h _))
  have hg := Routing.gather_row gather_S100000x32_S4096x1_S4096x32_1_0_n_n_0_1_132 rfl rfl rfl rfl rfl x idx i k
    ⟨(a (ix1 i)).toNat, h _⟩ (by rw [e]; exact word_ofNat _) (by decide)
  exact Eq.trans (if_pos (hm _)) hg

/-- The rows taken from a table of 1000 rows, at an entry: the table's row at the index. -/
theorem taken_small (x : FVec Ideal S1000x16 .f32) (idx : IVec S4096x1 32) (a : IVec S4096 32) (h : ∀ j, (a j).toNat < 1000)
    (e : ∀ y : S4096x1.Idx, idx y = a (ix1 (y 0))) (other : FVec Ideal S4096x16 .f32) (i : Fin 4096) (k : Fin 16) :
    select (broadcastInDim S4096x16 ![0] bcast_S4096_S4096x16_0 (Host.reduce IntOp.andi
        (andi (cmpi .sge idx (broadcastInDim S4096x1 ![] bcast_S_S4096x1 (constantI S_ 32 0#32)))
          (cmpi .sle idx (broadcastInDim S4096x1 ![0, 1] bcast_S1x1_S4096x1_0_1 (broadcastInDim S1x1 ![1] bcast_S1_S1x1_1 (constantI S1 32 999#32)))))
        (constantI S_ 1 1#1) reducesTo_S4096x1_S4096_d1 h_S_)) (Host.gather gather_S1000x16_S4096x1_S4096x16_1_0_n_n_0_1_116 x idx) other (ix2 i k)
      = x (ix2 ⟨(a (ix1 i)).toNat, h _⟩ k) := by
  have hm := mask_one 999#32 (by decide) idx (fun y => by rw [e y]; exact Nat.le_of_lt_succ (h _))
  have hg := Routing.gather_row gather_S1000x16_S4096x1_S4096x16_1_0_n_n_0_1_116 rfl rfl rfl rfl rfl x idx i k
    ⟨(a (ix1 i)).toNat, h _⟩ (by rw [e]; exact word_ofNat _) (by decide)
  exact Eq.trans (if_pos (hm _)) hg

variable (V : Valuation τ sig (Elt Ideal))

set_option maxRecDepth 16384 in
/-- The row numbers `main_arg1`, clipped and wrapped, are the list itself. -/
theorem ids3 (h : ∀ j, ((V (Proc.devRef .tc main_arg1) : Vec Ideal S4096 .i32) j).toNat < 100000) (y : S4096x1.Idx) :
    (res_main_call3_v5 V : Vec Ideal S4096x1 .i32) y = (V (Proc.devRef .tc main_arg1) : Vec Ideal S4096 .i32) (ix1 (y 0)) := by
  have e : res_main_v0 V = V (Proc.devRef .tc main_arg1) := by
    funext j
    exact clip_word (t := 99999#32) (by decide) (Nat.le_of_lt_succ (h j))
  unfold res_main_call3_v5
  rw [e]
  pointwise
  exact wrap_word (t := 99999#32) (by decide) (Nat.le_of_lt_succ (h _)) _

set_option maxRecDepth 16384 in
/-- The row numbers `main_arg2`, clipped and wrapped, are the list itself. -/
theorem ids4 (h : ∀ j, ((V (Proc.devRef .tc main_arg2) : Vec Ideal S4096 .i32) j).toNat < 100000) (y : S4096x1.Idx) :
    (res_main_call4_v5 V : Vec Ideal S4096x1 .i32) y = (V (Proc.devRef .tc main_arg2) : Vec Ideal S4096 .i32) (ix1 (y 0)) := by
  have e : res_main_v1 V = V (Proc.devRef .tc main_arg2) := by
    funext j
    exact clip_word (t := 99999#32) (by decide) (Nat.le_of_lt_succ (h j))
  unfold res_main_call4_v5
  rw [e]
  pointwise
  exact wrap_word (t := 99999#32) (by decide) (Nat.le_of_lt_succ (h _)) _

set_option maxRecDepth 16384 in
/-- The row numbers `main_arg3`, clipped and wrapped, are the list itself. -/
theorem ids5 (h : ∀ j, ((V (Proc.devRef .tc main_arg3) : Vec Ideal S4096 .i32) j).toNat < 1000) (y : S4096x1.Idx) :
    (res_main_call5_v5 V : Vec Ideal S4096x1 .i32) y = (V (Proc.devRef .tc main_arg3) : Vec Ideal S4096 .i32) (ix1 (y 0)) := by
  have e : res_main_v2 V = V (Proc.devRef .tc main_arg3) := by
    funext j
    exact clip_word (t := 999#32) (by decide) (Nat.le_of_lt_succ (h j))
  unfold res_main_call5_v5
  rw [e]
  pointwise
  exact wrap_word (t := 999#32) (by decide) (Nat.le_of_lt_succ (h _)) _

/-! ## The layers -/

/-- A sum over 208 rows in four parts. -/
theorem sum_parts (f : Fin 208 → EReal) : ∑ k, f k = (∑ k : Fin 128, f ⟨k.val, by omega⟩) + (∑ k : Fin 32, f ⟨128 + k.val, by omega⟩)
    + (∑ k : Fin 32, f ⟨160 + k.val, by omega⟩) + ∑ k : Fin 16, f ⟨192 + k.val, by omega⟩ := by
  rw [show ∑ k, f k = ∑ k : Fin (128 + 32 + 32 + 16), f k from rfl, Fin.sum_univ_add, Fin.sum_univ_add, Fin.sum_univ_add]
  rfl

set_option maxRecDepth 16384 in
/-- The first layer's product over four arrays side by side, at an entry: a sum over each of them. -/
theorem first_dot (x : FVec Ideal S4096x128 .f32) (u t : FVec Ideal S4096x32 .f32) (c : FVec Ideal S4096x16 .f32) (W : FVec Ideal S208x512 .f32)
    (b : FVec Ideal S512 .f32) (i : Fin 4096) (j : Fin 512) :
    addf (Host.dotGeneral dot_S4096x208_S208x512_S4096x512_1_0_0_1_n_n none (concatenate S4096x208 1
        [⟨S4096x128, x⟩, ⟨S4096x32, u⟩, ⟨S4096x32, t⟩, ⟨S4096x16, c⟩] concatenates_S4096x128_S4096x32_S4096x32_S4096x16_S4096x208_d1) W)
        (broadcastInDim S4096x512 ![0, 1] bcast_S1x512_S4096x512_0_1 (broadcastInDim S1x512 ![1] bcast_S512_S1x512_1 b)) (ix2 i j)
      = (∑ k : Fin 128, x (ix2 i k) * W (ix2 ⟨k.val, by omega⟩ j)) + (∑ k : Fin 32, u (ix2 i k) * W (ix2 ⟨128 + k.val, by omega⟩ j))
        + (∑ k : Fin 32, t (ix2 i k) * W (ix2 ⟨160 + k.val, by omega⟩ j)) + (∑ k : Fin 16, c (ix2 i k) * W (ix2 ⟨192 + k.val, by omega⟩ j)) + b (ix1 j) := by
  pointwise
  rw [sum_parts]
  refine congrArg (· + b (ix1 j)) (congrArg₂ (· + ·) (congrArg₂ (· + ·) (congrArg₂ (· + ·) ?_ ?_) ?_) ?_) <;> refine Finset.sum_congr rfl fun k _ => ?_
  · rw [dif_pos k.isLt]
  · have e : 128 + k.val - 128 = k.val := by omega
    rw [dif_neg (by show ¬ 128 + k.val < 128; omega), dif_pos (by show 128 + k.val - 128 < 32; omega)]
    simp only [e]
  · have e : 160 + k.val - 128 - 32 = k.val := by omega
    rw [dif_neg (by show ¬ 160 + k.val < 128; omega), dif_neg (by show ¬ 160 + k.val - 128 < 32; omega), dif_pos (by show 160 + k.val - 128 - 32 < 32; omega)]
    simp only [e]
  · have e : 192 + k.val - 128 - 32 - 32 = k.val := by omega
    rw [dif_neg (by show ¬ 192 + k.val < 128; omega), dif_neg (by show ¬ 192 + k.val - 128 < 32; omega), dif_neg (by show ¬ 192 + k.val - 128 - 32 < 32; omega)]
    simp only [e]

set_option maxRecDepth 16384 in
/-- The layer `main_v40` at an entry, over the layer before it. -/
theorem layer40_apply (i : Fin 4096) (j : Fin 256) :
    (res_main_v40 V : FVec Ideal S4096x256 .f32) (ix2 i j)
      = layer (refNorm (fun i k => (res_main_v10 V : FVec Ideal S4096x512 .f32) (ix2 i k)) (fun k => (V (Proc.devRef .tc main_arg15) : FVec Ideal S512 .f32) (ix1 k))
          (fun k => (V (Proc.devRef .tc main_arg16) : FVec Ideal S512 .f32) (ix1 k)))
        (fun k j => (V (Proc.devRef .tc main_arg9) : FVec Ideal S512x256 .f32) (ix2 k j)) (fun j => (V (Proc.devRef .tc main_arg10) : FVec Ideal S256 .f32) (ix1 j)) i j := by
  unfold res_main_v40 res_main_v16 res_main_v13
  generalize res_main_v10 V = h
  pointwise
  unfold layer refNorm
  rfl

set_option maxRecDepth 16384 in
/-- The layer `main_v70` at an entry, over the layer before it. -/
theorem layer70_apply (i : Fin 4096) (j : Fin 128) :
    (res_main_v70 V : FVec Ideal S4096x128 .f32) (ix2 i j)
      = layer (refNorm (fun i k => (res_main_v40 V : FVec Ideal S4096x256 .f32) (ix2 i k)) (fun k => (V (Proc.devRef .tc main_arg17) : FVec Ideal S256 .f32) (ix1 k))
          (fun k => (V (Proc.devRef .tc main_arg18) : FVec Ideal S256 .f32) (ix1 k)))
        (fun k j => (V (Proc.devRef .tc main_arg11) : FVec Ideal S256x128 .f32) (ix2 k j)) (fun j => (V (Proc.devRef .tc main_arg12) : FVec Ideal S128 .f32) (ix1 j)) i j := by
  unfold res_main_v70 res_main_v46 res_main_v43
  generalize res_main_v40 V = h
  pointwise
  unfold layer refNorm
  rfl

/-- What the reference computes, over its third layer. -/
def refOut : FVec Ideal S4096x256 .f32 :=
  addf (Host.dotGeneral (φ₂ := .f32) dot_S4096x128_S128x256_S4096x256_1_0_0_1_n_n none (maximumf (addf (mulf (Host.divf (subf (res_main_v70 V) (broadcastInDim S4096x128 ![0, 1] bcast_S1x128_S4096x128_0_1 (broadcastInDim S1x128 ![1] bcast_S128_S1x128_1 (res_main_v73 V)))) (broadcastInDim S4096x128 ![0, 1] bcast_S1x128_S4096x128_0_1 (broadcastInDim S1x128 ![1] bcast_S128_S1x128_1 (Host.sqrt (addf (Host.divf (Host.reduceAdd (mulf (res_main_v76 V) (res_main_v76 V)) (constant S_ .f32 0x00000000#32) reducesTo_S4096x128_S128_d0 h_S_) (broadcastInDim S128 ![] bcast_S_S128 (constant S_ .f32 0x45800000#32))) (broadcastInDim S128 ![] bcast_S_S128 (constant S_ .f32 0x3727C5AC#32))))))) (broadcastInDim S4096x128 ![0, 1] bcast_S1x128_S4096x128_0_1 (broadcastInDim S1x128 ![1] bcast_S128_S1x128_1 (V (Proc.devRef .tc main_arg19) : FVec Ideal S128 .f32)))) (broadcastInDim S4096x128 ![0, 1] bcast_S1x128_S4096x128_0_1 (broadcastInDim S1x128 ![1] bcast_S128_S1x128_1 (V (Proc.devRef .tc main_arg20) : FVec Ideal S128 .f32)))) (broadcastInDim S4096x128 ![] bcast_S_S4096x128 (constant S_ .f32 0x00000000#32))) (V (Proc.devRef .tc main_arg13) : FVec Ideal S128x256 .f32)) (broadcastInDim S4096x256 ![0, 1] bcast_S1x256_S4096x256_0_1 (broadcastInDim S1x256 ![1] bcast_S256_S1x256_1 (V (Proc.devRef .tc main_arg14) : FVec Ideal S256 .f32)))

set_option maxRecDepth 16384 in
/-- The reference's result at an entry, over its third layer. -/
theorem refOut_apply (i : Fin 4096) (j : Fin 256) :
    refOut V (ix2 i j)
      = layer (refNorm (fun i k => (res_main_v70 V : FVec Ideal S4096x128 .f32) (ix2 i k)) (fun k => (V (Proc.devRef .tc main_arg19) : FVec Ideal S128 .f32) (ix1 k))
          (fun k => (V (Proc.devRef .tc main_arg20) : FVec Ideal S128 .f32) (ix1 k)))
        (fun k j => (V (Proc.devRef .tc main_arg13) : FVec Ideal S128x256 .f32) (ix2 k j)) (fun j => (V (Proc.devRef .tc main_arg14) : FVec Ideal S256 .f32) (ix1 j)) i j := by
  unfold refOut res_main_v76 res_main_v73
  generalize res_main_v70 V = h
  pointwise
  unfold layer refNorm
  rfl

variable {V}

section network
variable {a0 : FVec Ideal ⟨2, ![4096, 128]⟩ .f32} {a1 a2 a3 : IVec ⟨1, ![4096]⟩ 32} {a4 a5 : FVec Ideal ⟨2, ![100000, 32]⟩ .f32} {a6 : FVec Ideal ⟨2, ![1000, 16]⟩ .f32} {a7 : FVec Ideal ⟨2, ![208, 512]⟩ .f32}
  {a8 : FVec Ideal ⟨1, ![512]⟩ .f32} {a9 : FVec Ideal ⟨2, ![512, 256]⟩ .f32} {a10 : FVec Ideal ⟨1, ![256]⟩ .f32} {a11 : FVec Ideal ⟨2, ![256, 128]⟩ .f32} {a12 : FVec Ideal ⟨1, ![128]⟩ .f32}
  {a13 : FVec Ideal ⟨2, ![128, 256]⟩ .f32} {a14 : FVec Ideal ⟨1, ![256]⟩ .f32} {a15 a16 : FVec Ideal ⟨1, ![512]⟩ .f32} {a17 a18 : FVec Ideal ⟨1, ![256]⟩ .f32} {a19 a20 : FVec Ideal ⟨1, ![128]⟩ .f32}
  (h1 : ∀ j, (a1 j).toNat < 100000) (h2 : ∀ j, (a2 j).toNat < 100000) (h3 : ∀ j, (a3 j).toNat < 1000)

/-- The first layer at an entry. -/
theorem first_apply (e0 : V (Proc.devRef .tc main_arg0) = a0) (e1 : V (Proc.devRef .tc main_arg1) = a1) (e2 : V (Proc.devRef .tc main_arg2) = a2) (e3 : V (Proc.devRef .tc main_arg3) = a3) (e4 : V (Proc.devRef .tc main_arg4) = a4)
    (e5 : V (Proc.devRef .tc main_arg5) = a5) (e6 : V (Proc.devRef .tc main_arg6) = a6) (e7 : V (Proc.devRef .tc main_arg7) = a7) (e8 : V (Proc.devRef .tc main_arg8) = a8) (i : Fin 4096) (j : Fin 512) :
    (res_main_v10 V : FVec Ideal S4096x512 .f32) (ix2 i j) = first a0 a1 a2 a3 a4 a5 a6 a7 a8 h1 h2 h3 i j := by
  subst e0 e1 e2 e3 e4 e5 e6 e7 e8
  unfold res_main_v10
  refine (first_dot _ _ _ _ _ _ i j).trans ?_
  unfold first
  refine congrArg₂ (· + ·) (congrArg₂ (· + ·) (congrArg₂ (· + ·) (congrArg₂ (· + ·) rfl ?_) ?_) ?_) rfl <;> refine Finset.sum_congr rfl fun k _ => congrArg₂ (· * ·) ?_ rfl
  · exact taken_big _ _ _ h1 (ids3 V h1) _ i k
  · exact taken_big _ _ _ h2 (ids4 V h2) _ i k
  · exact taken_small _ _ _ h3 (ids5 V h3) _ i k

/-- What the reference computes, at an entry. -/
theorem refOut_eq (e0 : V (Proc.devRef .tc main_arg0) = a0) (e1 : V (Proc.devRef .tc main_arg1) = a1) (e2 : V (Proc.devRef .tc main_arg2) = a2) (e3 : V (Proc.devRef .tc main_arg3) = a3) (e4 : V (Proc.devRef .tc main_arg4) = a4)
    (e5 : V (Proc.devRef .tc main_arg5) = a5) (e6 : V (Proc.devRef .tc main_arg6) = a6) (e7 : V (Proc.devRef .tc main_arg7) = a7) (e8 : V (Proc.devRef .tc main_arg8) = a8) (e9 : V (Proc.devRef .tc main_arg9) = a9)
    (e10 : V (Proc.devRef .tc main_arg10) = a10) (e11 : V (Proc.devRef .tc main_arg11) = a11) (e12 : V (Proc.devRef .tc main_arg12) = a12) (e13 : V (Proc.devRef .tc main_arg13) = a13) (e14 : V (Proc.devRef .tc main_arg14) = a14)
    (e15 : V (Proc.devRef .tc main_arg15) = a15) (e16 : V (Proc.devRef .tc main_arg16) = a16) (e17 : V (Proc.devRef .tc main_arg17) = a17) (e18 : V (Proc.devRef .tc main_arg18) = a18) (e19 : V (Proc.devRef .tc main_arg19) = a19) (e20 : V (Proc.devRef .tc main_arg20) = a20) (i : Fin 4096) (j : Fin 256) :
    refOut V (ix2 i j) = refVal a0 a1 a2 a3 a4 a5 a6 a7 a8 a9 a10 a11 a12 a13 a14 a15 a16 a17 a18 a19 a20 h1 h2 h3 i j := by
  rw [refOut_apply]
  simp only [layer70_apply, layer40_apply, first_apply h1 h2 h3 e0 e1 e2 e3 e4 e5 e6 e7 e8]
  subst e9 e10 e11 e12 e13 e14 e15 e16 e17 e18 e19 e20
  rfl

end network

end Cert.Proof

end
-- ==== Proof.Algebraic.lean ====
/-
  The value claim: the kernel's result is the reference's.
-/
module

public import proofs.«01_k».proof.Proof.KerArgs
public import proofs.«01_k».proof.Proof.RefValue

@[expose] public section

noncomputable section

namespace Cert.Proof

open Idealize.ShloMosaic
open Idealize.SL.Sem
open Idealize.ShloMosaic.TcCoe

/-- The kernel's network of equal arrays. -/
theorem kerNet_congr {h h' : Fin 4096 → Fin 512 → EReal} {g1 g1' be1 be1' : Fin 512 → EReal} {W2 W2' : Fin 512 → Fin 256 → EReal}
    {b2 b2' g2 g2' be2 be2' : Fin 256 → EReal} {W3 W3' : Fin 256 → Fin 128 → EReal} {b3 b3' g3 g3' be3 be3' : Fin 128 → EReal}
    {W4 W4' : Fin 128 → Fin 256 → EReal} {b4 b4' : Fin 256 → EReal} (eh : h = h') (eg1 : g1 = g1') (ebe1 : be1 = be1') (eW2 : W2 = W2')
    (eb2 : b2 = b2') (eg2 : g2 = g2') (ebe2 : be2 = be2') (eW3 : W3 = W3') (eb3 : b3 = b3') (eg3 : g3 = g3') (ebe3 : be3 = be3') (eW4 : W4 = W4')
    (eb4 : b4 = b4') (i : Fin 4096) (j : Fin 256) :
    kerNet h g1 be1 W2 b2 g2 be2 W3 b3 g3 be3 W4 b4 i j = kerNet h' g1' be1' W2' b2' g2' be2' W3' b3' g3' be3' W4' b4' i j := by
  subst eh eg1 ebe1 eW2 eb2 eg2 ebe2 eW3 eb3 eg3 ebe3 eW4 eb4
  rfl

section kernel
open Cert.KernelIdeal Cert.KernelIdeal.Gen

variable (m : (ℓ : Loc nD τ sig) → Buf (Elt Ideal) ℓ) (d : Dev nD)
variable {a0 : FVec Ideal ⟨2, ![4096, 128]⟩ .f32} {a1 a2 a3 : IVec ⟨1, ![4096]⟩ 32} {a4 a5 : FVec Ideal ⟨2, ![100000, 32]⟩ .f32} {a6 : FVec Ideal ⟨2, ![1000, 16]⟩ .f32} {a7 : FVec Ideal ⟨2, ![208, 512]⟩ .f32}
  {a8 : FVec Ideal ⟨1, ![512]⟩ .f32} {a9 : FVec Ideal ⟨2, ![512, 256]⟩ .f32} {a10 : FVec Ideal ⟨1, ![256]⟩ .f32} {a11 : FVec Ideal ⟨2, ![256, 128]⟩ .f32} {a12 : FVec Ideal ⟨1, ![128]⟩ .f32}
  {a13 : FVec Ideal ⟨2, ![128, 256]⟩ .f32} {a14 : FVec Ideal ⟨1, ![256]⟩ .f32} {a15 a16 : FVec Ideal ⟨1, ![512]⟩ .f32} {a17 a18 : FVec Ideal ⟨1, ![256]⟩ .f32} {a19 a20 : FVec Ideal ⟨1, ![128]⟩ .f32}
  (h1 : ∀ j, (a1 j).toNat < 100000) (h2 : ∀ j, (a2 j).toNat < 100000) (h3 : ∀ j, (a3 j).toNat < 1000)

/-- The kernel's first layer at an entry, over the program's arguments. -/
theorem kerFirst_eq (e0 : m (d, Proc.devRef .tc main_arg0) = a0) (e1 : m (d, Proc.devRef .tc main_arg1) = a1) (e2 : m (d, Proc.devRef .tc main_arg2) = a2) (e3 : m (d, Proc.devRef .tc main_arg3) = a3) (e4 : m (d, Proc.devRef .tc main_arg4) = a4)
    (e5 : m (d, Proc.devRef .tc main_arg5) = a5) (e6 : m (d, Proc.devRef .tc main_arg6) = a6) (e7 : m (d, Proc.devRef .tc main_arg7) = a7) (e8 : m (d, Proc.devRef .tc main_arg8) = a8) :
    kerFirst (W3 m d main_arg0) (W3 m d main_v6_0) (W3 m d main_v6_1) (W3 m d main_v6_2) (W3 m d main_v7) (W3 m d main_v8) (W3 m d main_v9) (W3 m d main_v10)
      (W3 m d main_v11) = first a0 a1 a2 a3 a4 a5 a6 a7 a8 h1 h2 h3 := by
  subst e0 e1 e2 e3 e4 e5 e6 e7 e8
  funext i j
  unfold kerFirst first
  refine congrArg₂ (· + ·) (congrArg₂ (· + ·) (congrArg₂ (· + ·) (congrArg₂ (· + ·) ?_ ?_) ?_) ?_) (v11_apply m d j)
    <;> refine Finset.sum_congr rfl fun k _ => ?_
  · exact congrArg₂ (· * ·) (congrFun (W3_arg m d (r := main_arg0) (by decide)) _) (v7_apply m d k j)
  · exact congrArg₂ (· * ·) (v6_0_apply m d k i (h1 _)) (v8_apply m d k j)
  · exact congrArg₂ (· * ·) (v6_1_apply m d k i (h2 _)) (v9_apply m d k j)
  · exact congrArg₂ (· * ·) (v6_2_apply m d k i (h3 _)) (v10_apply m d k j)

/-- The kernel's result at an entry, over the program's arguments. -/
theorem mlpOut_eq (e0 : m (d, Proc.devRef .tc main_arg0) = a0) (e1 : m (d, Proc.devRef .tc main_arg1) = a1) (e2 : m (d, Proc.devRef .tc main_arg2) = a2) (e3 : m (d, Proc.devRef .tc main_arg3) = a3) (e4 : m (d, Proc.devRef .tc main_arg4) = a4)
    (e5 : m (d, Proc.devRef .tc main_arg5) = a5) (e6 : m (d, Proc.devRef .tc main_arg6) = a6) (e7 : m (d, Proc.devRef .tc main_arg7) = a7) (e8 : m (d, Proc.devRef .tc main_arg8) = a8) (e9 : m (d, Proc.devRef .tc main_arg9) = a9)
    (e10 : m (d, Proc.devRef .tc main_arg10) = a10) (e11 : m (d, Proc.devRef .tc main_arg11) = a11) (e12 : m (d, Proc.devRef .tc main_arg12) = a12) (e13 : m (d, Proc.devRef .tc main_arg13) = a13) (e14 : m (d, Proc.devRef .tc main_arg14) = a14)
    (e15 : m (d, Proc.devRef .tc main_arg15) = a15) (e16 : m (d, Proc.devRef .tc main_arg16) = a16) (e17 : m (d, Proc.devRef .tc main_arg17) = a17) (e18 : m (d, Proc.devRef .tc main_arg18) = a18) (e19 : m (d, Proc.devRef .tc main_arg19) = a19) (e20 : m (d, Proc.devRef .tc main_arg20) = a20) (i : Fin 4096) (j : Fin 256) :
    mlpOut (fun c b => W3 m c b) d (ix2 i j) = kerVal a0 a1 a2 a3 a4 a5 a6 a7 a8 a9 a10 a11 a12 a13 a14 a15 a16 a17 a18 a19 a20 h1 h2 h3 i j := by
  subst e0 e1 e2 e3 e4 e5 e6 e7 e8 e9 e10 e11 e12 e13 e14 e15 e16 e17 e18 e19 e20
  unfold mlpOut
  refine (mlp_apply (W3 m d main_arg0) (W3 m d main_v6_0) (W3 m d main_v6_1) (W3 m d main_v6_2) (W3 m d main_v7) (W3 m d main_v8) (W3 m d main_v9)
    (W3 m d main_v10) (W3 m d main_v11) (W3 m d main_arg9) (W3 m d main_v12) (W3 m d main_arg11) (W3 m d main_v13) (W3 m d main_arg13) (W3 m d main_v14)
    (W3 m d main_v15) (W3 m d main_v16) (W3 m d main_v17) (W3 m d main_v18) (W3 m d main_v19) (W3 m d main_v20) i j).trans ?_
  exact kerNet_congr (kerFirst_eq m d h1 h2 h3 rfl rfl rfl rfl rfl rfl rfl rfl rfl) (funext (v15_apply m d)) (funext (v16_apply m d))
    (funext fun k => funext fun j => congrFun (W3_arg m d (r := main_arg9) (by decide)) _) (funext (v12_apply m d)) (funext (v17_apply m d)) (funext (v18_apply m d))
    (funext fun k => funext fun j => congrFun (W3_arg m d (r := main_arg11) (by decide)) _) (funext (v13_apply m d)) (funext (v19_apply m d)) (funext (v20_apply m d))
    (funext fun k => funext fun j => congrFun (W3_arg m d (r := main_arg13) (by decide)) _) (funext (v14_apply m d)) i j

end kernel

set_option maxHeartbeats 4000000 in
/-- From one memory of arguments the kernel's every execution and the reference's end with the same result, and with
    their arguments as they were. -/
theorem value : Cert.algebraic_KernelIdeal_ReferenceIdeal_pre_ids_in_range_finite := by
  intro m g m' g' hpre hag
  have hG := fun c => good_of_pre (hpre c)
  refine ⟨fun c => mlpOut (fun c b => W3 m c b) c,
    (θ_run Cert.KernelIdeal.defs _ _).mono (fun r h => h.1) (run_args (F := Ideal) m g fun d => insOf_range m d ⟨(hG d).r1, (hG d).r2, (hG d).r3⟩),
    (θ_run Cert.ReferenceIdeal.defs _ _).mono (fun r h c => ⟨(h c).1.trans ?_, (h c).2⟩) (Cert.ReferenceIdeal.Value.run (F := Ideal) m' g')⟩
  obtain ⟨e0, e1, e2, e3, e4, e5, e6, e7, e8, e9, e10, e11, e12, e13, e14, e15, e16, e17, e18, e19, e20⟩ := hag c
  show refOut (StableHlo.launchContents m' c) = mlpOut (fun c b => W3 m c b) c
  funext y
  rw [eq_ix2 y]
  exact (refOut_eq (hG c).r1 (hG c).r2 (hG c).r3 e0 e1 e2 e3 e4 e5 e6 e7 e8 e9 e10 e11 e12 e13 e14 e15 e16 e17 e18 e19 e20 (y 0) (y 1)).trans
    ((congrFun (congrFun (val_eq _ _ _ _ _ _ _ _ _ _ _ _ _ _ _ _ _ _ _ _ _ _ _ _ (hG c)) (y 0)) (y 1)).symm.trans
      (mlpOut_eq m c (hG c).r1 (hG c).r2 (hG c).r3 rfl rfl rfl rfl rfl rfl rfl rfl rfl rfl rfl rfl rfl rfl rfl rfl rfl rfl rfl rfl rfl (y 0) (y 1)).symm)

end Cert.Proof

end
-- ==== Proof.lean ====
module

public import proofs.«01_k».proof.Defs
public import proofs.«01_k».proof.Proof.Algebraic

@[expose] public section

namespace Cert.Proof

/-- The certificate's claim. -/
theorem claim : Cert.Claim :=
  ⟨Cert.Kernel.Gen.facts, Cert.KernelIdeal.Gen.facts, Cert.ReferenceIdeal.Gen.facts, Cert.Pre_ids_in_range.Gen.facts,
    Cert.Pre_ids_in_range_finite.Gen.facts, frame_kernel, frame_kernel_ideal, frame_kernel_ideal_finite, frame_reference,
    frame_reference_finite, trivial, value⟩

end Cert.Proof

end
